-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unused_rows_zero [hPre_unused_rows_zero : Cert.Pre_unused_rows_zero.Facts] (m : (ℓ : Loc Cert.KernelIdeal.nD Cert.KernelIdeal.τ Cert.KernelIdeal.sig) → Buf (Elt Ideal) ℓ) : Prop :=
  ∀ c : Dev Cert.KernelIdeal.nD,
    (Cert.Pre_unused_rows_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unused_rows_zero [hPre_unused_rows_zero : Cert.Pre_unused_rows_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unused_rows_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_bound_inside [hPre_bound_inside : Cert.Pre_bound_inside.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_bound_inside.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_bound_inside [hPre_bound_inside : Cert.Pre_bound_inside.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_bound_inside.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_unused_rows_zero [hKernelIdeal : Cert.KernelIdeal.Facts] [hPre_unused_rows_zero : Cert.Pre_unused_rows_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unused_rows_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_unused_rows_zero [hReferenceIdeal : Cert.ReferenceIdeal.Facts] [hPre_unused_rows_zero : Cert.Pre_unused_rows_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unused_rows_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Kernel3Ideal_pre_bound_inside [hKernel3Ideal : Cert.Kernel3Ideal.Facts] [hPre_bound_inside : Cert.Pre_bound_inside.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_bound_inside m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def quiescent_Reference3Ideal_pre_bound_inside [hReference3Ideal : Cert.Reference3Ideal.Facts] [hPre_bound_inside : Cert.Pre_bound_inside.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_bound_inside m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def preserves_Kernel_KernelIdeal : Prop :=
  True

def algebraic_KernelIdeal_ReferenceIdeal_pre_unused_rows_zero [hKernelIdeal : Cert.KernelIdeal.Facts] [hReferenceIdeal : Cert.ReferenceIdeal.Facts] [hPre_unused_rows_zero : Cert.Pre_unused_rows_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unused_rows_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v59) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_bound_inside [hKernel3Ideal : Cert.Kernel3Ideal.Facts] [hReference3Ideal : Cert.Reference3Ideal.Facts] [hPre_bound_inside : Cert.Pre_bound_inside.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_bound_inside m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v1_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_unused_rows_zero : Cert.Pre_unused_rows_zero.Facts) (hPre_bound_inside : Cert.Pre_bound_inside.Facts),
    quiescent_Kernel (hKernel := hKernel)
    ∧ quiescent_KernelIdeal (hKernelIdeal := hKernelIdeal)
    ∧ quiescent_KernelIdeal_pre_unused_rows_zero (hKernelIdeal := hKernelIdeal) (hPre_unused_rows_zero := hPre_unused_rows_zero)
    ∧ quiescent_ReferenceIdeal (hReferenceIdeal := hReferenceIdeal)
    ∧ quiescent_ReferenceIdeal_pre_unused_rows_zero (hReferenceIdeal := hReferenceIdeal) (hPre_unused_rows_zero := hPre_unused_rows_zero)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_bound_inside (hKernel3Ideal := hKernel3Ideal) (hPre_bound_inside := hPre_bound_inside)
    ∧ quiescent_Reference3Ideal (hReference3Ideal := hReference3Ideal)
    ∧ quiescent_Reference3Ideal_pre_bound_inside (hReference3Ideal := hReference3Ideal) (hPre_bound_inside := hPre_bound_inside)
    ∧ preserves_Kernel_KernelIdeal
    ∧ algebraic_KernelIdeal_ReferenceIdeal_pre_unused_rows_zero (hKernelIdeal := hKernelIdeal) (hReferenceIdeal := hReferenceIdeal) (hPre_unused_rows_zero := hPre_unused_rows_zero)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_bound_inside (hKernel3Ideal := hKernel3Ideal) (hReference3Ideal := hReference3Ideal) (hPre_bound_inside := hPre_bound_inside)
-- ==== Pre_bound_inside.lean ====
abbrev S8x2048x1024 : Shape := ⟨3, ![8, 2048, 1024]⟩
abbrev S1x1024 : Shape := ⟨2, ![1, 1024]⟩
abbrev S1024x6656 : Shape := ⟨2, ![1024, 6656]⟩
abbrev S1x6656 : Shape := ⟨2, ![1, 6656]⟩
abbrev S16x256x512 : Shape := ⟨3, ![16, 256, 512]⟩
abbrev S16x256x256 : Shape := ⟨3, ![16, 256, 256]⟩
abbrev S6x2048 : Shape := ⟨2, ![6, 2048]⟩
abbrev S1x512 : Shape := ⟨2, ![1, 512]⟩
abbrev S512x512 : Shape := ⟨2, ![512, 512]⟩
abbrev S512x1024 : Shape := ⟨2, ![512, 1024]⟩
abbrev S1024x1024 : Shape := ⟨2, ![1024, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel

variable [Facts]

def fn {F : FTy → Type} [FloatOps F] (main_arg0 : FVec F S8x2048x1024 .f32) (main_arg1 : FVec F S1x1024 .f32) (main_arg2 : FVec F S1024x6656 .f32) (main_arg3 : FVec F S1x6656 .f32) (main_arg4 : FVec F S16x256x512 .bf16) (main_arg5 : FVec F S16x256x256 .bf16) (main_arg6 : FVec F S6x2048 .f32) (main_arg7 : FVec F S6x2048 .f32) (main_arg8 : FVec F S1x512 .f32) (main_arg9 : FVec F S512x512 .bf16) (main_arg10 : FVec F S1x512 .f32) (main_arg11 : FVec F S1x1024 .f32) (main_arg12 : FVec F S1x1024 .f32) (main_arg13 : FVec F S512x1024 .bf16) (main_arg14 : FVec F S1024x1024 .bf16) (main_arg15 : FVec F S1024x1024 .bf16) (main_arg16 : FVec F S1x1024 .f32) : IVec S_ 1 :=
  let main_cst : FVec F S_ .f32 := constant S_ .f32 0x00000000#32
  let main_v0 : FVec F S1x1024 .f32 := broadcastInDim S1x1024 ![] bcast_S_S1x1024 main_cst
  let main_v1 : IVec S1x1024 1 := cmpf .ogt main_arg11 main_v0
  let main_cst_0 : FVec F S_ .f32 := constant S_ .f32 0x3F800000#32
  let main_v2 : FVec F S1x1024 .f32 := broadcastInDim S1x1024 ![] bcast_S_S1x1024 main_cst_0
  let main_v3 : IVec S1x1024 1 := cmpf .olt main_arg11 main_v2
  let main_v4 : IVec S1x1024 1 := andi main_v1 main_v3
  let main_c : IVec S_ 1 := constantI S_ 1 1#1
  let main_v5 : IVec S_ 1 := (fun x v => Host.reduce IntOp.andi x v reducesTo_S1x1024_S_d0_1 h_S_) main_v4 main_c
  main_v5
-- ==== Pre_unused_rows_zero.lean ====
abbrev S128x8x128x128 : Shape := ⟨4, ![128, 8, 128, 128]⟩
abbrev S8192x128 : Shape := ⟨2, ![8192, 128]⟩
abbrev S128x8x8x128 : Shape := ⟨4, ![128, 8, 8, 128]⟩
abbrev S128x8x4x128 : Shape := ⟨4, ![128, 8, 4, 128]⟩
abbrev S_ : Shape := ⟨0, ![]⟩

class Facts : Prop where
  shapeCasts_S8192x128_S128x8x8x128 : S8192x128.ShapeCasts S128x8x8x128
  slices_S128x8x8x128_S128x8x4x128_0_0_4_0 : S128x8x8x128.Slices ![0, 0, 4, 0] S128x8x4x128
  bcast_S_S128x8x4x128 : S_.BroadcastsInDim S128x8x4x128 (![] : Fin 0 → Fin S128x8x4x128.rank)
  reducesTo_S128x8x4x128_S_d0_1_2_3 : S128x8x4x128.ReducesTo [0, 1, 2, 3] S_
  h_S_ : 0 < S_.numel

variable [Facts]

def fn {F : FTy → Type} [FloatOps F] (main_arg0 : FVec F S128x8x128x128 .f32) (main_arg1 : FVec F S8192x128 .f32) (main_arg2 : FVec F S8192x128 .f32) (main_arg3 : FVec F S8192x128 .f32) : IVec S_ 1 :=
  let main_v0 : FVec F S128x8x8x128 .f32 := shapeCast S128x8x8x128 main_arg2 shapeCasts_S8192x128_S128x8x8x128
  let main_v1 : FVec F S128x8x4x128 .f32 := (extractStridedSlice S128x8x4x128 ![0, 0, 4, 0] · slices_S128x8x8x128_S128x8x4x128_0_0_4_0) main_v0
  let main_cst : FVec F S_ .f32 := constant S_ .f32 0x00000000#32
  let main_v2 : FVec F S128x8x4x128 .f32 := broadcastInDim S128x8x4x128 ![] bcast_S_S128x8x4x128 main_cst
  let main_v3 : IVec S128x8x4x128 1 := cmpf .oeq main_v1 main_v2
  let main_c : IVec S_ 1 := constantI S_ 1 1#1
  let main_v4 : IVec S_ 1 := (fun x v => Host.reduce IntOp.andi x v reducesTo_S128x8x4x128_S_d0_1_2_3 h_S_) main_v3 main_c
  main_v4
-- ==== Kernel.lean ====
abbrev S128x8x128x128 : Shape := ⟨4, ![128, 8, 128, 128]⟩
abbrev S8192x128 : Shape := ⟨2, ![8192, 128]⟩
abbrev S128x8x8x128 : Shape := ⟨4, ![128, 8, 8, 128]⟩
abbrev S128x64x128 : Shape := ⟨3, ![128, 64, 128]⟩
abbrev S16x8x8x128 : Shape := ⟨4, ![16, 8, 8, 128]⟩
abbrev S16x64x128 : Shape := ⟨3, ![16, 64, 128]⟩
abbrev S16x8x128x128 : Shape := ⟨4, ![16, 8, 128, 128]⟩
abbrev S3x16x8x128x128 : Shape := ⟨5, ![3, 16, 8, 128, 128]⟩
abbrev S3 : Shape := ⟨1, ![3]⟩
abbrev S1 : Shape := ⟨1, ![1]⟩
abbrev S_ : Shape := ⟨0, ![]⟩
abbrev S1x16x8x128x128 : Shape := ⟨5, ![1, 16, 8, 128, 128]⟩
abbrev S64x1024 : Shape := ⟨2, ![64, 1024]⟩
abbrev S64x128 : Shape := ⟨2, ![64, 128]⟩
abbrev S1x64x128 : Shape := ⟨3, ![1, 64, 128]⟩
abbrev S128x128 : Shape := ⟨2, ![128, 128]⟩
abbrev S128x1024 : Shape := ⟨2, ![128, 1024]⟩
abbrev S1x1x128x128 : Shape := ⟨4, ![1, 1, 128, 128]⟩
abbrev S1x1x8x128 : Shape := ⟨4, ![1, 1, 8, 128]⟩
abbrev S8x128 : Shape := ⟨2, ![8, 128]⟩
abbrev S128x1 : Shape := ⟨2, ![128, 1]⟩

abbrev nBuf : Space → Nat
  | .hbm => 9
  | .vmem => 11
  | .smem => 0
  | _ => 0

abbrev bufTy : (tb : Table) → Fin (tcTables nBuf tb) → BufTy
  | .hbm, ⟨0, _⟩ => ⟨S128x8x128x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S128x8x8x128, .f32⟩
  | .hbm, ⟨5, _⟩ => ⟨S128x64x128, .f32⟩
  | .hbm, ⟨6, _⟩ => ⟨S128x64x128, .f32⟩
  | .hbm, ⟨7, _⟩ => ⟨S128x8x128x128, .f32⟩
  | .hbm, ⟨8, _⟩ => ⟨S128x8x8x128, .f32⟩
  | .local _ .vmem, ⟨0, _⟩ => ⟨S16x8x8x128, .f32⟩
  | .local _ .vmem, ⟨1, _⟩ => ⟨S16x8x8x128, .f32⟩
  | .local _ .vmem, ⟨2, _⟩ => ⟨S16x64x128, .f32⟩
  | .local _ .vmem, ⟨3, _⟩ => ⟨S16x64x128, .f32⟩
  | .local _ .vmem, ⟨4, _⟩ => ⟨S16x64x128, .f32⟩
  | .local _ .vmem, ⟨5, _⟩ => ⟨S16x64x128, .f32⟩
  | .local _ .vmem, ⟨6, _⟩ => ⟨S16x8x128x128, .f32⟩
  | .local _ .vmem, ⟨7, _⟩ => ⟨S16x8x128x128, .f32⟩
  | .local _ .vmem, ⟨8, _⟩ => ⟨S16x8x8x128, .f32⟩
  | .local _ .vmem, ⟨9, _⟩ => ⟨S16x8x8x128, .f32⟩
  | .local _ .vmem, ⟨10, _⟩ => ⟨S3x16x8x128x128, .f32⟩
  | _, _ => ⟨S128x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c8_i32 : BitVec 32 := 8#32
  let v5 : BitVec 1 := Scalar.cmpi .slt v4 c8_i32
  let v6 : BitVec 32 := Scalar.extui v5
  let c0_i32_1 : BitVec 32 := 0#32
  let v7 : BitVec 1 := Scalar.cmpi .ne v6 c0_i32_1
  v7

def k0_off1 (i : grid0.Coords) : Fin 1 → Nat :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c3_i32_2844 : BitVec 32 := 3#32
  let c0_i32_2845 : BitVec 32 := 0#32
  let v2860 : BitVec 1 := Scalar.cmpi .eq c3_i32_2844 c0_i32_2845
  let c1_i32_2846 : BitVec 32 := 1#32
  let v2861 : BitVec 32 := Scalar.select v2860 c1_i32_2846 c3_i32_2844
  let v2862 : BitVec 32 := Scalar.remsi v4 v2861
  let c0_i32_2848 : BitVec 32 := 0#32
  let v2864 : BitVec 1 := Scalar.cmpi .slt v2862 c0_i32_2848
  let c0_i32_2849 : BitVec 32 := 0#32
  let v2865 : BitVec 1 := Scalar.cmpi .slt v2861 c0_i32_2849
  let v2866 : BitVec 1 := Scalar.xori v2864 v2865
  let c0_i32_2847 : BitVec 32 := 0#32
  let v2863 : BitVec 1 := Scalar.cmpi .ne v2862 c0_i32_2847
  let v2867 : BitVec 1 := Scalar.andi v2866 v2863
  let v2868 : BitVec 32 := Scalar.addi v2862 v2861
  let v2869 : BitVec 32 := Scalar.select v2867 v2868 v2862
  ![v2869.toNat]
def k0_off2 (i : grid0.Coords) : Fin 5 → Nat :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c3_i32_2844 : BitVec 32 := 3#32
  let c0_i32_2845 : BitVec 32 := 0#32
  let v2860 : BitVec 1 := Scalar.cmpi .eq c3_i32_2844 c0_i32_2845
  let c1_i32_2846 : BitVec 32 := 1#32
  let v2861 : BitVec 32 := Scalar.select v2860 c1_i32_2846 c3_i32_2844
  let v2862 : BitVec 32 := Scalar.remsi v4 v2861
  let c0_i32_2848 : BitVec 32 := 0#32
  let v2864 : BitVec 1 := Scalar.cmpi .slt v2862 c0_i32_2848
  let c0_i32_2849 : BitVec 32 := 0#32
  let v2865 : BitVec 1 := Scalar.cmpi .slt v2861 c0_i32_2849
  let v2866 : BitVec 1 := Scalar.xori v2864 v2865
  let c0_i32_2847 : BitVec 32 := 0#32
  let v2863 : BitVec 1 := Scalar.cmpi .ne v2862 c0_i32_2847
  let v2867 : BitVec 1 := Scalar.andi v2866 v2863
  let v2868 : BitVec 32 := Scalar.addi v2862 v2861
  let v2869 : BitVec 32 := Scalar.select v2867 v2868 v2862
  let c0_i32_2851 : BitVec 32 := 0#32
  let c0_i32_2852 : BitVec 32 := 0#32
  let c0_i32_2853 : BitVec 32 := 0#32
  let c0_i32_2854 : BitVec 32 := 0#32
  ![v2869.toNat, 0, 0, 0, 0]
def k0_off3 (i : grid0.Coords) : Fin 4 → Nat :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c16_i32_2850 : BitVec 32 := 16#32
  let v2870 : BitVec 32 := Scalar.muli v4 c16_i32_2850
  let c0_i32_2855 : BitVec 32 := 0#32
  let c0_i32_2856 : BitVec 32 := 0#32
  let c0_i32_2857 : BitVec 32 := 0#32
  ![v2870.toNat, 0, 0, 0]
def k0_off4 (i : grid0.Coords) : Fin 1 → Nat :=
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  ![v17.toNat]
def k0_off5 (i : grid0.Coords) : Fin 5 → Nat :=
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_8 : BitVec 32 := 0#32
  let c0_i32_9 : BitVec 32 := 0#32
  let c0_i32_10 : BitVec 32 := 0#32
  let c0_i32_11 : BitVec 32 := 0#32
  ![v17.toNat, 0, 0, 0, 0]
def k0_off6 (i : grid0.Coords) : Fin 4 → Nat :=
  let arg0 : BitVec 32 := BitVec.ofNat 32 (i 0).val
  let c16_i32 : BitVec 32 := 16#32
  let v18 : BitVec 32 := Scalar.muli arg0 c16_i32
  let c0_i32_12 : BitVec 32 := 0#32
  let c0_i32_13 : BitVec 32 := 0#32
  let c0_i32_14 : BitVec 32 := 0#32
  ![v18.toNat, 0, 0, 0]
def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x8x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S128x8x128x128 : Shape := ⟨4, ![128, 8, 128, 128]⟩
abbrev S8192x128 : Shape := ⟨2, ![8192, 128]⟩
abbrev S128x8x8x128 : Shape := ⟨4, ![128, 8, 8, 128]⟩
abbrev S128x8x4x128 : Shape := ⟨4, ![128, 8, 4, 128]⟩
abbrev S128x8x1x128 : Shape := ⟨4, ![128, 8, 1, 128]⟩
abbrev S128x8x128 : Shape := ⟨3, ![128, 8, 128]⟩
abbrev S128x8x128x1 : Shape := ⟨4, ![128, 8, 128, 1]⟩

abbrev nBuf : Space → Nat
  | .hbm => 18
  | .vmem => 0
  | .smem => 0
  | _ => 0

abbrev bufTy : (tb : Table) → Fin (tcTables nBuf tb) → BufTy
  | .hbm, ⟨0, _⟩ => ⟨S128x8x128x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S128x8x8x128, .f32⟩
  | .hbm, ⟨5, _⟩ => ⟨S128x8x8x128, .f32⟩
  | .hbm, ⟨6, _⟩ => ⟨S128x8x4x128, .f32⟩
  | .hbm, ⟨7, _⟩ => ⟨S128x8x8x128, .f32⟩
  | .hbm, ⟨8, _⟩ => ⟨S128x8x1x128, .f32⟩
  | .hbm, ⟨9, _⟩ => ⟨S128x8x128, .f32⟩
  | .hbm, ⟨10, _⟩ => ⟨S128x8x8x128, .f32⟩
  | .hbm, ⟨11, _⟩ => ⟨S128x8x4x128, .f32⟩
  | .hbm, ⟨12, _⟩ => ⟨S128x8x128x1, .f32⟩
  | .hbm, ⟨13, _⟩ => ⟨S128x8x128x128, .f32⟩
  | .hbm, ⟨14, _⟩ => ⟨S128x8x128x128, .f32⟩
  | .hbm, ⟨15, _⟩ => ⟨S128x8x128x128, .f32⟩
  | .hbm, ⟨16, _⟩ => ⟨S128x8x128x128, .f32⟩
  | .hbm, ⟨17, _⟩ => ⟨S128x8x8x128, .f32⟩
  | _, _ => ⟨S128x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel2.lean ====
abbrev S16384x1024 : Shape := ⟨2, ![16384, 1024]⟩
abbrev S128x4096 : Shape := ⟨2, ![128, 4096]⟩
abbrev S1x1024 : Shape := ⟨2, ![1, 1024]⟩
abbrev S1024x4096 : Shape := ⟨2, ![1024, 4096]⟩
abbrev S4096x1024 : Shape := ⟨2, ![4096, 1024]⟩
abbrev S1024x1024 : Shape := ⟨2, ![1024, 1024]⟩
abbrev S1024x512 : Shape := ⟨2, ![1024, 512]⟩
abbrev S512x1024 : Shape := ⟨2, ![512, 1024]⟩
abbrev S8x1024x512 : Shape := ⟨3, ![8, 1024, 512]⟩
abbrev S8x512x1024 : Shape := ⟨3, ![8, 512, 1024]⟩
abbrev S1x1024x512 : Shape := ⟨3, ![1, 1024, 512]⟩
abbrev S1x512x1024 : Shape := ⟨3, ![1, 512, 1024]⟩
abbrev S512 : Shape := ⟨1, ![512]⟩
abbrev S512x1 : Shape := ⟨2, ![512, 1]⟩
abbrev S512x512 : Shape := ⟨2, ![512, 512]⟩
abbrev S128x1024 : Shape := ⟨2, ![128, 1024]⟩

abbrev nBuf : Space → Nat
  | .hbm => 8
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S128x4096, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S16384x1024, .f32⟩
  | .hbm, ⟨7, _⟩ => ⟨S128x4096, .f32⟩
  | .local _ .vmem, ⟨0, _⟩ => ⟨S1024x1024, .f32⟩
  | .local _ .vmem, ⟨1, _⟩ => ⟨S1024x1024, .f32⟩
  | .local _ .vmem, ⟨2, _⟩ => ⟨S128x4096, .f32⟩
  | .local _ .vmem, ⟨3, _⟩ => ⟨S1x1024, .f32⟩
  | .local _ .vmem, ⟨4, _⟩ => ⟨S1024x512, .f32⟩
  | .local _ .vmem, ⟨5, _⟩ => ⟨S1024x512, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S128x4096, .f32⟩
  | .local _ .vmem, ⟨12, _⟩ => ⟨S8x1024x512, .bf16⟩
  | .local _ .vmem, ⟨13, _⟩ => ⟨S8x512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let v13 : Index := Scalar.indexCast arg0
  let c0_5 : Index := 0#32
  let c0_6 : Index := 0#32
  ![v13.toNat, 0, 0]
def k0_off2 (i : grid0.Coords) : Fin 3 → Nat :=
  let arg0 : BitVec 32 := BitVec.ofNat 32 (i 0).val
  let v19 : Index := Scalar.indexCast arg0
  let c0_9 : Index := 0#32
  let c0_10 : Index := 0#32
  ![v19.toNat, 0, 0]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let c24_i32 : BitVec 32 := 24#32
  let v4 : BitVec 1 := Scalar.cmpi .slt arg0 c24_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg0 : BitVec 32 := BitVec.ofNat 32 (i 0).val
  let c24_i32_2 : BitVec 32 := 24#32
  let v8 : BitVec 1 := Scalar.cmpi .eq arg0 c24_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S16384x1024 : Shape := ⟨2, ![16384, 1024]⟩
abbrev S128x4096 : Shape := ⟨2, ![128, 4096]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩

abbrev nBuf : Space → Nat
  | .hbm => 82
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S128x4096, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S512x1024, .f32⟩
  | .hbm, ⟨44, _⟩ => ⟨S512x1024, .f32⟩
  | .hbm, ⟨45, _⟩ => ⟨S_, .f32⟩
  | .hbm, ⟨46, _⟩ => ⟨S512, .f32⟩
  | .hbm, ⟨47, _⟩ => ⟨S512x1, .f32⟩
  | .hbm, ⟨48, _⟩ => ⟨S_, .f32⟩
  | .hbm, ⟨49, _⟩ => ⟨S512x1, .f32⟩
  | .hbm, ⟨50, _⟩ => ⟨S512x1, .f32⟩
  | .hbm, ⟨51, _⟩ => ⟨S_, .f32⟩
  | .hbm, ⟨52, _⟩ => ⟨S512x1, .f32⟩
  | .hbm, ⟨53, _⟩ => ⟨S512x1, .f32⟩
  | .hbm, ⟨54, _⟩ => ⟨S512x1, .f32⟩
  | .hbm, ⟨55, _⟩ => ⟨S512x1024, .f32⟩
  | .hbm, ⟨56, _⟩ => ⟨S512x1024, .f32⟩
  | .hbm, ⟨57, _⟩ => ⟨S512x1024, .f32⟩
  | .hbm, ⟨58, _⟩ => ⟨S512x1024, .f32⟩
  | .hbm, ⟨59, _⟩ => ⟨S512x4096, .f32⟩
  | .hbm, ⟨60, _⟩ => ⟨S_, .f32⟩
  | .hbm, ⟨61, _⟩ => ⟨S512x4096, .f32⟩
  | .hbm, ⟨62, _⟩ => ⟨S512x4096, .f32⟩
  | .hbm, ⟨63, _⟩ => ⟨S512x4096, .f32⟩
  | .hbm, ⟨64, _⟩ => ⟨S512x1024, .f32⟩
  | .hbm, ⟨65, _⟩ => ⟨S512x1024, .f32⟩
  | .hbm, ⟨66, _⟩ => ⟨S_, .f32⟩
  | .hbm, ⟨67, _⟩ => ⟨S512, .f32⟩
  | .hbm, ⟨68, _⟩ => ⟨S512x1, .f32⟩
  | .hbm, ⟨69, _⟩ => ⟨S_, .f32⟩
  | .hbm, ⟨70, _⟩ => ⟨S512x1, .f32⟩
  | .hbm, ⟨71, _⟩ => ⟨S512x1, .f32⟩
  | .hbm, ⟨72, _⟩ => ⟨S_, .f32⟩
  | .hbm, ⟨73, _⟩ => ⟨S512x1, .f32⟩
  | .hbm, ⟨74, _⟩ => ⟨S512x1, .f32⟩
  | .hbm, ⟨75, _⟩ => ⟨S512x1, .f32⟩
  | .hbm, ⟨76, _⟩ => ⟨S512x1024, .f32⟩
  | .hbm, ⟨77, _⟩ => ⟨S512x1024, .f32⟩
  | .hbm, ⟨78, _⟩ => ⟨S512x1024, .f32⟩
  | .hbm, ⟨79, _⟩ => ⟨S512x1024, .f32⟩
  | .hbm, ⟨80, _⟩ => ⟨S512x1024, .f32⟩
  | .hbm, ⟨81, _⟩ => ⟨S128x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_call1_cst : Ref sig .tc := ⟨.hbm, 60, rfl⟩
abbrev main_call1_v0 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== Kernel3.lean ====
abbrev S8x2048x1024 : Shape := ⟨3, ![8, 2048, 1024]⟩
abbrev S1x1024 : Shape := ⟨2, ![1, 1024]⟩
abbrev S1024x6656 : Shape := ⟨2, ![1024, 6656]⟩
abbrev S1x6656 : Shape := ⟨2, ![1, 6656]⟩
abbrev S16x256x512 : Shape := ⟨3, ![16, 256, 512]⟩
abbrev S16x256x256 : Shape := ⟨3, ![16, 256, 256]⟩
abbrev S6x2048 : Shape := ⟨2, ![6, 2048]⟩
abbrev S1x512 : Shape := ⟨2, ![1, 512]⟩
abbrev S512x512 : Shape := ⟨2, ![512, 512]⟩
abbrev S512x1024 : Shape := ⟨2, ![512, 1024]⟩
abbrev S1024x1024 : Shape := ⟨2, ![1024, 1024]⟩
abbrev S8x1x2048 : Shape := ⟨3, ![8, 1, 2048]⟩
abbrev S8x8x128x128 : Shape := ⟨4, ![8, 8, 128, 128]⟩
abbrev S1x512x1024 : Shape := ⟨3, ![1, 512, 1024]⟩
abbrev S1x1x2048 : Shape := ⟨3, ![1, 1, 2048]⟩
abbrev S1x8x128x128 : Shape := ⟨4, ![1, 8, 128, 128]⟩
abbrev S4x512x128 : Shape := ⟨3, ![4, 512, 128]⟩
abbrev S16x64x256 : Shape := ⟨3, ![16, 64, 256]⟩
abbrev S64x2048 : Shape := ⟨2, ![64, 2048]⟩
abbrev S1x2048 : Shape := ⟨2, ![1, 2048]⟩
abbrev S8x128x128 : Shape := ⟨3, ![8, 128, 128]⟩
abbrev S512x4096 : Shape := ⟨2, ![512, 4096]⟩
abbrev S2x5x64x1024 : Shape := ⟨4, ![2, 5, 64, 1024]⟩
abbrev S2x1x1024 : Shape := ⟨3, ![2, 1, 1024]⟩
abbrev S512 : Shape := ⟨1, ![512]⟩
abbrev S512x1 : Shape := ⟨2, ![512, 1]⟩
abbrev S1024x512 : Shape := ⟨2, ![1024, 512]⟩
abbrev S512x128 : Shape := ⟨2, ![512, 128]⟩
abbrev S1x512x128 : Shape := ⟨3, ![1, 512, 128]⟩
abbrev S256x1024 : Shape := ⟨2, ![256, 1024]⟩
abbrev S1024x256 : Shape := ⟨2, ![1024, 256]⟩
abbrev S512x256 : Shape := ⟨2, ![512, 256]⟩
abbrev S1x256 : Shape := ⟨2, ![1, 256]⟩
abbrev S64x128 : Shape := ⟨2, ![64, 128]⟩
abbrev S1x64x128 : Shape := ⟨3, ![1, 64, 128]⟩
abbrev S64x256 : Shape := ⟨2, ![64, 256]⟩
abbrev S1x64x256 : Shape := ⟨3, ![1, 64, 256]⟩
abbrev S1x256x512 : Shape := ⟨3, ![1, 256, 512]⟩
abbrev S256x512 : Shape := ⟨2, ![256, 512]⟩
abbrev S64x512 : Shape := ⟨2, ![64, 512]⟩
abbrev S64x1 : Shape := ⟨2, ![64, 1]⟩
abbrev S1x256x256 : Shape := ⟨3, ![1, 256, 256]⟩
abbrev S256x256 : Shape := ⟨2, ![256, 256]⟩
abbrev S64x64 : Shape := ⟨2, ![64, 64]⟩
abbrev S64x1024 : Shape := ⟨2, ![64, 1024]⟩
abbrev S128x1024 : Shape := ⟨2, ![128, 1024]⟩
abbrev S1x1x64x1024 : Shape := ⟨4, ![1, 1, 64, 1024]⟩
abbrev S1x1x1024 : Shape := ⟨3, ![1, 1, 1024]⟩
abbrev S1x1x64x128 : Shape := ⟨4, ![1, 1, 64, 128]⟩
abbrev S1x128x128 : Shape := ⟨3, ![1, 128, 128]⟩
abbrev S128x128 : Shape := ⟨2, ![128, 128]⟩
abbrev S1x128 : Shape := ⟨2, ![1, 128]⟩
abbrev S64 : Shape := ⟨1, ![64]⟩
abbrev S1x256x1024 : Shape := ⟨3, ![1, 256, 1024]⟩
abbrev S256 : Shape := ⟨1, ![256]⟩
abbrev S256x1 : Shape := ⟨2, ![256, 1]⟩
abbrev S1x1x128x128 : Shape := ⟨4, ![1, 1, 128, 128]⟩

abbrev nBuf : Space → Nat
  | .hbm => 22
  | .vmem => 42
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1024x6656, .f32⟩
  | .hbm, ⟨3, _⟩ => ⟨S1x6656, .f32⟩
  | .hbm, ⟨4, _⟩ => ⟨S16x256x512, .bf16⟩
  | .hbm, ⟨5, _⟩ => ⟨S16x256x256, .bf16⟩
  | .hbm, ⟨6, _⟩ => ⟨S6x2048, .f32⟩
  | .hbm, ⟨7, _⟩ => ⟨S6x2048, .f32⟩
  | .hbm, ⟨8, _⟩ => ⟨S1x512, .f32⟩
  | .hbm, ⟨9, _⟩ => ⟨S512x512, .bf16⟩
  | .hbm, ⟨10, _⟩ => ⟨S1x512, .f32⟩
  | .hbm, ⟨11, _⟩ => ⟨S1x1024, .f32⟩
  | .hbm, ⟨12, _⟩ => ⟨S1x1024, .f32⟩
  | .hbm, ⟨13, _⟩ => ⟨S512x1024, .bf16⟩
  | .hbm, ⟨14, _⟩ => ⟨S1024x1024, .bf16⟩
  | .hbm, ⟨15, _⟩ => ⟨S1024x1024, .bf16⟩
  | .hbm, ⟨16, _⟩ => ⟨S1x1024, .f32⟩
  | .hbm, ⟨17, _⟩ => ⟨S1024x6656, .bf16⟩
  | .hbm, ⟨18, _⟩ => ⟨S8x2048x1024, .f32⟩
  | .hbm, ⟨19, _⟩ => ⟨S8x1x2048, .f32⟩
  | .hbm, ⟨20, _⟩ => ⟨S8x1x2048, .f32⟩
  | .hbm, ⟨21, _⟩ => ⟨S8x8x128x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x6656, .bf16⟩
  | .local _ .vmem, ⟨4, _⟩ => ⟨S1x6656, .f32⟩
  | .local _ .vmem, ⟨5, _⟩ => ⟨S16x256x512, .bf16⟩
  | .local _ .vmem, ⟨6, _⟩ => ⟨S16x256x256, .bf16⟩
  | .local _ .vmem, ⟨7, _⟩ => ⟨S6x2048, .f32⟩
  | .local _ .vmem, ⟨8, _⟩ => ⟨S6x2048, .f32⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S1x1024, .f32⟩
  | .local _ .vmem, ⟨13, _⟩ => ⟨S1x1024, .f32⟩
  | .local _ .vmem, ⟨14, _⟩ => ⟨S512x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x1x2048, .f32⟩
  | .local _ .vmem, ⟨21, _⟩ => ⟨S1x1x2048, .f32⟩
  | .local _ .vmem, ⟨22, _⟩ => ⟨S1x1x2048, .f32⟩
  | .local _ .vmem, ⟨23, _⟩ => ⟨S1x1x2048, .f32⟩
  | .local _ .vmem, ⟨24, _⟩ => ⟨S1x8x128x128, .f32⟩
  | .local _ .vmem, ⟨25, _⟩ => ⟨S1x8x128x128, .f32⟩
  | .local _ .vmem, ⟨26, _⟩ => ⟨S512x1024, .bf16⟩
  | .local _ .vmem, ⟨27, _⟩ => ⟨S4x512x128, .f32⟩
  | .local _ .vmem, ⟨28, _⟩ => ⟨S4x512x128, .f32⟩
  | .local _ .vmem, ⟨29, _⟩ => ⟨S16x64x256, .bf16⟩
  | .local _ .vmem, ⟨30, _⟩ => ⟨S16x64x256, .f32⟩
  | .local _ .vmem, ⟨31, _⟩ => ⟨S64x2048, .f32⟩
  | .local _ .vmem, ⟨32, _⟩ => ⟨S64x2048, .f32⟩
  | .local _ .vmem, ⟨33, _⟩ => ⟨S1x2048, .f32⟩
  | .local _ .vmem, ⟨34, _⟩ => ⟨S1x2048, .f32⟩
  | .local _ .vmem, ⟨35, _⟩ => ⟨S8x128x128, .f32⟩
  | .local _ .vmem, ⟨36, _⟩ => ⟨S512x4096, .f32⟩
  | .local _ .vmem, ⟨37, _⟩ => ⟨S512x1024, .bf16⟩
  | .local _ .vmem, ⟨38, _⟩ => ⟨S512x1024, .f32⟩
  | .local _ .vmem, ⟨39, _⟩ => ⟨S2x5x64x1024, .bf16⟩
  | .local _ .vmem, ⟨40, _⟩ => ⟨S2x1x1024, .f32⟩
  | .local _ .vmem, ⟨41, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1_0 : Ref sig .tc := ⟨.hbm, 18, rfl⟩
abbrev main_v1_1 : Ref sig .tc := ⟨.hbm, 19, rfl⟩
abbrev main_v1_2 : Ref sig .tc := ⟨.hbm, 20, rfl⟩
abbrev main_v1_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_scratch8 : Ref sig .tc := ⟨.vmem, 34, rfl⟩
abbrev cc0_scratch9 : Ref sig .tc := ⟨.vmem, 35, rfl⟩
abbrev cc0_scratch10 : Ref sig .tc := ⟨.vmem, 36, rfl⟩
abbrev cc0_scratch11 : Ref sig .tc := ⟨.vmem, 37, rfl⟩
abbrev cc0_scratch12 : Ref sig .tc := ⟨.vmem, 38, rfl⟩
abbrev cc0_scratch13 : Ref sig .tc := ⟨.vmem, 39, rfl⟩
abbrev cc0_scratch14 : Ref sig .tc := ⟨.vmem, 40, rfl⟩
abbrev cc0_scratch15 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v4860 : BitVec 1 := Scalar.cmpi .eq arg1 c3_i32
  let v4861 : BitVec 32 := Scalar.extui v4860
  let c0_i32_3635 : BitVec 32 := 0#32
  let v4862 : BitVec 1 := Scalar.cmpi .ne v4861 c0_i32_3635
  v4862

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x6656 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S6x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S6x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x1x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x8x128x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== Reference3Ideal.lean ====
abbrev S8x2048x1024 : Shape := ⟨3, ![8, 2048, 1024]⟩
abbrev S1x1024 : Shape := ⟨2, ![1, 1024]⟩
abbrev S1024x6656 : Shape := ⟨2, ![1024, 6656]⟩
abbrev S1x6656 : Shape := ⟨2, ![1, 6656]⟩
abbrev S16x256x512 : Shape := ⟨3, ![16, 256, 512]⟩
abbrev S16x256x256 : Shape := ⟨3, ![16, 256, 256]⟩
abbrev S6x2048 : Shape := ⟨2, ![6, 2048]⟩
abbrev S1x512 : Shape := ⟨2, ![1, 512]⟩
abbrev S512x512 : Shape := ⟨2, ![512, 512]⟩
abbrev S512x1024 : Shape := ⟨2, ![512, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x6656 : Shape := ⟨3, ![8, 2048, 6656]⟩
abbrev S1x1x6656 : Shape := ⟨3, ![1, 1, 6656]⟩
abbrev S8x2048x8x128 : Shape := ⟨4, ![8, 2048, 8, 128]⟩
abbrev S8x1x8x128 : Shape := ⟨4, ![8, 1, 8, 128]⟩
abbrev S8x8x128 : Shape := ⟨3, ![8, 8, 128]⟩
abbrev S8x8x128x128 : Shape := ⟨4, ![8, 8, 128, 128]⟩

abbrev nBuf : Space → Nat
  | .hbm => 74
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1024x6656, .f32⟩
  | .hbm, ⟨3, _⟩ => ⟨S1x6656, .f32⟩
  | .hbm, ⟨4, _⟩ => ⟨S16x256x512, .bf16⟩
  | .hbm, ⟨5, _⟩ => ⟨S16x256x256, .bf16⟩
  | .hbm, ⟨6, _⟩ => ⟨S6x2048, .f32⟩
  | .hbm, ⟨7, _⟩ => ⟨S6x2048, .f32⟩
  | .hbm, ⟨8, _⟩ => ⟨S1x512, .f32⟩
  | .hbm, ⟨9, _⟩ => ⟨S512x512, .bf16⟩
  | .hbm, ⟨10, _⟩ => ⟨S1x512, .f32⟩
  | .hbm, ⟨11, _⟩ => ⟨S1x1024, .f32⟩
  | .hbm, ⟨12, _⟩ => ⟨S1x1024, .f32⟩
  | .hbm, ⟨13, _⟩ => ⟨S512x1024, .bf16⟩
  | .hbm, ⟨14, _⟩ => ⟨S1024x1024, .bf16⟩
  | .hbm, ⟨15, _⟩ => ⟨S1024x1024, .bf16⟩
  | .hbm, ⟨16, _⟩ => ⟨S1x1024, .f32⟩
  | .hbm, ⟨17, _⟩ => ⟨S8x2048x1024, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S8x2048x1, .f32⟩
  | .hbm, ⟨28, _⟩ => ⟨S8x2048x1024, .f32⟩
  | .hbm, ⟨29, _⟩ => ⟨S8x2048x1024, .f32⟩
  | .hbm, ⟨30, _⟩ => ⟨S1x1x1024, .f32⟩
  | .hbm, ⟨31, _⟩ => ⟨S8x2048x1024, .f32⟩
  | .hbm, ⟨32, _⟩ => ⟨S8x2048x1024, .f32⟩
  | .hbm, ⟨33, _⟩ => ⟨S8x2048x6656, .f32⟩
  | .hbm, ⟨34, _⟩ => ⟨S1x1x6656, .f32⟩
  | .hbm, ⟨35, _⟩ => ⟨S8x2048x6656, .f32⟩
  | .hbm, ⟨36, _⟩ => ⟨S8x2048x6656, .f32⟩
  | .hbm, ⟨37, _⟩ => ⟨S8x2048x1024, .f32⟩
  | .hbm, ⟨38, _⟩ => ⟨S8x2048x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S8x2048x1024, .f32⟩
  | .hbm, ⟨43, _⟩ => ⟨S8x2048x1024, .f32⟩
  | .hbm, ⟨44, _⟩ => ⟨S_, .f32⟩
  | .hbm, ⟨45, _⟩ => ⟨S8x2048x1024, .f32⟩
  | .hbm, ⟨46, _⟩ => ⟨S8x2048x1024, .f32⟩
  | .hbm, ⟨47, _⟩ => ⟨S_, .f32⟩
  | .hbm, ⟨48, _⟩ => ⟨S8x2048x1024, .f32⟩
  | .hbm, ⟨49, _⟩ => ⟨S8x2048x1024, .f32⟩
  | .hbm, ⟨50, _⟩ => ⟨S1x1x1024, .f32⟩
  | .hbm, ⟨51, _⟩ => ⟨S8x2048x1024, .f32⟩
  | .hbm, ⟨52, _⟩ => ⟨S8x2048x1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x8x128, .f32⟩
  | .hbm, ⟨58, _⟩ => ⟨S_, .f32⟩
  | .hbm, ⟨59, _⟩ => ⟨S8x2048x1024, .f32⟩
  | .hbm, ⟨60, _⟩ => ⟨S8x2048x1024, .f32⟩
  | .hbm, ⟨61, _⟩ => ⟨S8x2048x8x128, .f32⟩
  | .hbm, ⟨62, _⟩ => ⟨S8x2048x8x128, .f32⟩
  | .hbm, ⟨63, _⟩ => ⟨S_, .f32⟩
  | .hbm, ⟨64, _⟩ => ⟨S_, .f32⟩
  | .hbm, ⟨65, _⟩ => ⟨S8x2048x8x128, .f32⟩
  | .hbm, ⟨66, _⟩ => ⟨S8x1x8x128, .f32⟩
  | .hbm, ⟨67, _⟩ => ⟨S8x8x128, .f32⟩
  | .hbm, ⟨68, _⟩ => ⟨S8x1x8x128, .f32⟩
  | .hbm, ⟨69, _⟩ => ⟨S8x2048x8x128, .f32⟩
  | .hbm, ⟨70, _⟩ => ⟨S8x2048x8x128, .f32⟩
  | .hbm, ⟨71, _⟩ => ⟨S8x2048x8x128, .f32⟩
  | .hbm, ⟨72, _⟩ => ⟨S8x2048x8x128, .f32⟩
  | .hbm, ⟨73, _⟩ => ⟨S8x8x128x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call0_call0_cst : Ref sig .tc := ⟨.hbm, 63, rfl⟩
abbrev main_call0_call0_v0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Proof.StatePieces.lean ====
module

public import proofs.«01_k».proof.Proof.Gen.KernelIdeal.Value

@[expose] public section

set_option maxRecDepth 65536

noncomputable section

namespace Cert.KernelIdeal.Gen

open Idealize.ShloMosaic Idealize.ShloMosaic.TcCoe Idealize.ShloMosaic.Tactic

variable {F : FTy → Type} [FloatOps F]

/-! ## What one batch element and one head's tile is computed as

The body works through the sixteen batch elements of its block and the eight heads of each one. Whatever the element
and the head are, the two tiles it stores are these terms. -/

/-- Row `i` of a three-dimensional window lies in it. -/
theorem inRow (i : ℕ) (hi : i < 16) : ∀ a, (![i, 0, 0] : Fin 3 → ℕ) a + S1x64x128.size a ≤ S16x64x128.size a := by
  intro a; fin_cases a <;> simp [S1x64x128, S16x64x128] <;> omega

/-- The tile of batch element `i` and head `h` lies in the state's block. -/
theorem inState (i h : ℕ) (hi : i < 16) (hh : h < 8) :
    ∀ a, (![i, h, 0, 0] : Fin 4 → ℕ) a + S1x1x128x128.size a ≤ S16x8x128x128.size a := by
  intro a; fin_cases a <;> simp [S1x1x128x128, S16x8x128x128] <;> omega

/-- The rows of batch element `i` and head `h` lie in the query's block. -/
theorem inQuery (i h : ℕ) (hi : i < 16) (hh : h < 8) :
    ∀ a, (![i, h, 0, 0] : Fin 4 → ℕ) a + S1x1x8x128.size a ≤ S16x8x8x128.size a := by
  intro a; fin_cases a <;> simp [S1x1x8x128, S16x8x8x128] <;> omega

/-- The decay column of head `h` is a column of the transposed columns. -/
theorem decayCol (h : ℕ) (hh : h < 8) : S128x128.Slices ![0, h * 8 + 4] S128x1 := by
  refine ⟨rfl, fun a => ?_⟩; fin_cases a <;> simp [S128x128, S128x1] <;> omega

/-- Head `h`'s part of the outer products is a block of columns. -/
theorem headCols (h : ℕ) (hh : h < 8) : S128x1024.Slices ![0, h * 128] S128x128 := by
  refine ⟨rfl, fun a => ?_⟩; fin_cases a <;> simp [S128x1024, S128x128] <;> omega

/-- Which (row, column) pairs belong to the same head: row `r` is head `r / 8`'s, column `l` head `l / 128`'s. -/
def headMask : IVec S64x1024 1 :=
  k0_pay6 (iota .tc S64x1024 32 [0] iota_S64x1024_d0_w32) 8#32 k0_pay3 k0_pay4 k0_pay5

/-- The columns of one batch element, transposed, beside a block of zeros. -/
def colsT (x : Vec F S1x64x128 .f32) : FVec F S128x128 .f32 := k0_pay9 k0_pay7 (k0_pay8 x)

/-- All heads' outer products of one batch element, one matrix product. -/
def outers (x v : Vec F S1x64x128 .f32) : FVec F S128x1024 .f32 := k0_pay10 headMask k0_pay7 (k0_pay8 x) v

/-- The new state's tile: the old one, each row scaled by its decay, plus the head's outer products. -/
def stateTile (x v : Vec F S1x64x128 .f32) (s : Vec F S1x1x128x128 .f32) (h : ℕ) (hh : h < 8) :
    FVec F S1x1x128x128 .f32 :=
  shapeCast S1x1x128x128
    (addf (mulf (broadcastTo S128x128 (extractStridedSlice S128x1 ![0, h * 8 + 4] (colsT x) (decayCol h hh)) broadcasts_S128x1_S128x128) (k0_pay11 s))
      (extractStridedSlice S128x128 ![0, h * 128] (outers x v) (headCols h hh)))
    shapeCasts_S128x128_S1x1x128x128

variable (arg2 : Memref sig .tc .vmem S16x8x8x128 .f32) (harg2 : arg2.IsWhole)
  (arg3 : Memref sig .tc .vmem S16x64x128 .f32) (harg3 : arg3.IsWhole)
  (arg4 : Memref sig .tc .vmem S16x64x128 .f32) (harg4 : arg4.IsWhole)
  (x0 : Vec F S16x8x8x128 .f32) (x1 : Vec F S16x64x128 .f32) (x2 : Vec F S16x64x128 .f32)
  (c : Dev nD) (t : Fin cfg0.N) (fh0 : HbBuf0 (F := F) c hbM0_0)

/-- The old state's tile of element `i` and head `h`, as the body loads it from the ring's slot. -/
def landedTile (i h : ℕ) (hi : i < 16) (hh : h < 8) : Vec F S1x1x128x128 .f32 :=
  (rslot0_0 (Ring.sl 3 ↑t)).view.readCov
    [⟨Rect.whole S16x8x128x128, ReadAs.same.apply (View.read (Elt F) (srcB0_0 (Ring.bk 8 ↑t)).view fh0)⟩]
    (Rect.unit (s := S16x8x128x128) ![i, h, 0, 0] S1x1x128x128.size (inState i h hi hh)).toLoadRect

/-- Row `i` of a window, as the body loads it. -/
def loadedRow (a : Memref sig .tc .vmem S16x64x128 .f32) (ha : a.IsWhole) (x : Vec F S16x64x128 .f32) (i : ℕ) (hi : i < 16) :
    Vec F S1x64x128 .f32 :=
  View.readAt (Elt F) a.view (Rect.unit (s := S16x64x128) ![i, 0, 0] S1x64x128.size (inRow i hi)).toLoadRect (ha.unread x)

/-- The piece of the new state that the body stores for element `i` and head `h`. -/
def statePiece (i h : ℕ) (hi : i < 16) (hh : h < 8) : View.Piece (Elt F) S16x8x128x128 .f32 :=
  ⟨Rect.unit ![i, h, 0, 0] S1x1x128x128.size (inState i h hi hh),
    stateTile (loadedRow arg4 harg4 x2 i hi) (loadedRow arg3 harg3 x1 i hi) (landedTile c t fh0 i h hi hh) h hh⟩

/-- The piece of the read-out that the body stores for element `i` and head `h`. -/
def queryPiece (i h : ℕ) (hi : i < 16) (hh : h < 8) : View.Piece (Elt F) S16x8x8x128 .f32 :=
  ⟨Rect.unit ![i, h, 0, 0] S1x1x8x128.size (inQuery i h hi hh),
    k0_pay12 (landedTile c t fh0 i h hi hh)
      (View.readAt (Elt F) arg2.view (Rect.unit (s := S16x8x8x128) ![i, h, 0, 0] S1x1x8x128.size (inQuery i h hi hh)).toLoadRect (harg2.unread x0))⟩

/-- The body's stores, the last one first. -/
def statePieces : List (View.Piece (Elt F) S16x8x128x128 .f32) :=
  List.ofFn fun k : Fin 128 => statePiece arg3 harg3 arg4 harg4 x1 x2 c t fh0 (15 - k.val / 8) (7 - k.val % 8) (by omega) (by omega)

/-- The read-out's stores, the last one first. -/
def queryPieces : List (View.Piece (Elt F) S16x8x8x128 .f32) :=
  List.ofFn fun k : Fin 128 => queryPiece arg2 harg2 x0 c t fh0 (15 - k.val / 8) (7 - k.val % 8) (by omega) (by omega)

/-- At the first point the state's stores are the uniform ones. -/
theorem piecesA_3 (arg5 harg5 arg6 harg6 hc0 hc1) :
    (kernelRun0_A (F := F) c t arg2 harg2 arg3 harg3 arg4 harg4 arg5 harg5 arg6 harg6 hc0 hc1 x0 x1 x2 fh0).1
      = statePieces arg3 harg3 arg4 harg4 x1 x2 c t fh0 := by
  sl_kernel_rfl

/-- At the first point the read-out's stores are the uniform ones. -/
theorem piecesA_4 (arg5 harg5 arg6 harg6 hc0 hc1) :
    (kernelRun0_A (F := F) c t arg2 harg2 arg3 harg3 arg4 harg4 arg5 harg5 arg6 harg6 hc0 hc1 x0 x1 x2 fh0).2.1
      = queryPieces arg2 harg2 x0 c t fh0 := by
  sl_kernel_rfl

/-- At points 1 to 5 the state's stores are the uniform ones. -/
theorem piecesB_3 (arg5 harg5 arg6 harg6 hc0 hc1) :
    (kernelRun0_B (F := F) c t arg2 harg2 arg3 harg3 arg4 harg4 arg5 harg5 arg6 harg6 hc0 hc1 x0 x1 x2 fh0).1
      = statePieces arg3 harg3 arg4 harg4 x1 x2 c t fh0 := by
  sl_kernel_rfl

/-- At points 1 to 5 the read-out's stores are the uniform ones. -/
theorem piecesB_4 (arg5 harg5 arg6 harg6 hc0 hc1) :
    (kernelRun0_B (F := F) c t arg2 harg2 arg3 harg3 arg4 harg4 arg5 harg5 arg6 harg6 hc0 hc1 x0 x1 x2 fh0).2.1
      = queryPieces arg2 harg2 x0 c t fh0 := by
  sl_kernel_rfl

/-- At the last two points the state's stores are the uniform ones. -/
theorem piecesC_3 (arg5 harg5 arg6 harg6 hc0 hc1) :
    (kernelRun0_C (F := F) c t arg2 harg2 arg3 harg3 arg4 harg4 arg5 harg5 arg6 harg6 hc0 hc1 x0 x1 x2 fh0).1
      = statePieces arg3 harg3 arg4 harg4 x1 x2 c t fh0 := by
  sl_kernel_rfl

/-- At the last two points the read-out's stores are the uniform ones. -/
theorem piecesC_4 (arg5 harg5 arg6 harg6 hc0 hc1) :
    (kernelRun0_C (F := F) c t arg2 harg2 arg3 harg3 arg4 harg4 arg5 harg5 arg6 harg6 hc0 hc1 x0 x1 x2 fh0).2.1
      = queryPieces arg2 harg2 x0 c t fh0 := by
  sl_kernel_rfl

end Cert.KernelIdeal.Gen

end
-- ==== Proof.StateValue.lean ====
module

public import proofs.«01_k».proof.Proof.StatePieces
public import Idealize.ShloMosaic.Lib.Pointwise
public import Idealize.ShloMosaic.Lib.Pipeline.ValueKit.Geometry

@[expose] public section

set_option maxRecDepth 65536

noncomputable section

namespace Cert.KernelIdeal.Gen

open Idealize.ShloMosaic Idealize.ShloMosaic.TcCoe Idealize.ShloMosaic.Tactic

/-! ## The tiles in exact arithmetic -/

/-- Floor division of signed words as the body spells it: the truncated quotient, one less where the signs differ and
    the remainder is not zero. -/
def floorWord (x d : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32)))
        (Scalar.subi (Scalar.extui (Scalar.cmpi CmpIPredicate.sgt d 0#32))
          (Scalar.extui (Scalar.cmpi CmpIPredicate.slt d 0#32))))
      (IntOp.cmpi CmpIPredicate.ne (IntOp.remsi ArithUnit.vector x d) 0#32))
    (IntOp.subi (IntOp.divsi ArithUnit.vector x d) 1#32)
    (IntOp.divsi ArithUnit.vector x d)

/-- A row's number divided by eight. -/
theorem floorWord_row : ∀ k : Fin 64, floorWord (BitVec.ofNat 32 k.val) 8#32 = BitVec.ofNat 32 (k.val / 8) := by
  decide +kernel

/-- A column's number divided by 128. -/
theorem floorWord_col : ∀ l : Fin 1024, floorWord (BitVec.ofNat 32 l.val) 128#32 = BitVec.ofNat 32 (l.val / 128) := by
  decide +kernel

/-- Small words are equal when the numbers are. -/
theorem word_eq : ∀ a b : Fin 8, IntOp.cmpi CmpIPredicate.eq (BitVec.ofNat 32 a.val) (BitVec.ofNat 32 b.val)
    = if a = b then 1#1 else 0#1 := by
  decide +kernel

/-- The mask is one where the row and the column belong to the same head. -/
theorem headMask_apply (k : Fin 64) (l : Fin 1024) :
    headMask (ix2 k l) = if k.val / 8 = l.val / 128 then 1#1 else 0#1 := by
  unfold headMask
  unfold_payloads
  pointwise
  show IntOp.cmpi CmpIPredicate.eq (floorWord (BitVec.ofNat 32 k.val) 8#32) (floorWord (BitVec.ofNat 32 l.val) 128#32) = _
  rw [floorWord_row, floorWord_col]
  have e := word_eq ⟨k.val / 8, by omega⟩ ⟨l.val / 128, by omega⟩
  simpa [Fin.ext_iff] using e

/-- A sum over 64 rows that keeps only one head's rows is the sum over that head's eight rows. -/
theorem sum_head {M : Type} [AddCommMonoid M] (f : Fin 64 → M) (h : Fin 8) :
    (∑ r : Fin 64, if r.val / 8 = h.val then f r else 0) = ∑ j : Fin 8, f ⟨h.val * 8 + j.val, by omega⟩ := by
  rw [← (finProdFinEquiv (m := 8) (n := 8)).sum_comp, Fintype.sum_prod_type, Finset.sum_eq_single h]
  · refine Finset.sum_congr rfl fun j _ => ?_
    have e : (finProdFinEquiv (m := 8) (n := 8) (h, j)) = (⟨h.val * 8 + j.val, by omega⟩ : Fin 64) := by
      apply Fin.ext; show j.val + 8 * h.val = h.val * 8 + j.val; omega
    rw [e, if_pos (by show (h.val * 8 + j.val) / 8 = h.val; omega)]
  · intro a _ ha
    refine Finset.sum_eq_zero fun j _ => if_neg ?_
    show ¬ (j.val + 8 * a.val) / 8 = h.val
    intro e; exact ha (Fin.ext (by omega))
  · intro hn; exact absurd (Finset.mem_univ _) hn

/-- One head's block of the matrix product: the outer products of that head's eight rows. -/
theorem outers_apply (x v : Vec Ideal S1x64x128 .f32) (h : Fin 8) (k l : Fin 128) :
    outers x v (ix2 k ⟨h.val * 128 + l.val, by omega⟩)
      = ∑ j : Fin 8, x (ix3 0 ⟨h.val * 8 + j.val, by omega⟩ k) * v (ix3 0 ⟨h.val * 8 + j.val, by omega⟩ l) := by
  have e : outers x v (ix2 k ⟨h.val * 128 + l.val, by omega⟩)
      = ∑ r : Fin 64, if r.val / 8 = h.val then x (ix3 0 r k) * v (ix3 0 r l) else 0 := by
    unfold outers
    have hM : ∀ r : Fin 64, headMask (ix2 r ⟨h.val * 128 + l.val, by omega⟩) = if r.val / 8 = h.val then 1#1 else 0#1 := by
      intro r
      rw [headMask_apply]
      refine if_congr ?_ rfl rfl
      show r.val / 8 = (h.val * 128 + l.val) / 128 ↔ _
      omega
    generalize headMask = M at hM
    unfold_payloads
    pointwise
    rw [Finset.sum_eq_zero (s := Finset.univ) (f := fun _ => (0 : EReal) * 0) (fun _ _ => mul_zero _), add_zero]
    refine Finset.sum_congr rfl fun r _ => ?_
    rw [hM]
    by_cases hr : r.val / 8 = h.val
    · rw [if_pos hr, if_pos hr]
      show x (ix3 0 r k) * _ = x (ix3 0 r k) * _
      congr 1
      split_ifs <;> (congr 2; apply Fin.ext; simp only; omega)
    · rw [if_neg hr, if_neg hr]
      rfl
  rw [e, sum_head (fun r => x (ix3 0 r k) * v (ix3 0 r l)) h]

/-- The new state's tile: the decay times the old state, plus the outer products of the head's rows. -/
theorem stateTile_apply (x v : Vec Ideal S1x64x128 .f32) (s : Vec Ideal S1x1x128x128 .f32) (h : Fin 8) (k l : Fin 128) :
    stateTile x v s h.val h.isLt (ix4 0 0 k l)
      = x (ix3 0 ⟨h.val * 8 + 4, by omega⟩ k) * s (ix4 0 0 k l)
        + ∑ j : Fin 8, x (ix3 0 ⟨h.val * 8 + j.val, by omega⟩ k) * v (ix3 0 ⟨h.val * 8 + j.val, by omega⟩ l) := by
  rw [← outers_apply]
  unfold stateTile colsT
  unfold_payloads
  pointwise
  rw [dif_pos (by omega)]

/-- The read-out's tile: the head's query rows times the old state. -/
theorem queryTile_apply (s : Vec Ideal S1x1x128x128 .f32) (q : Vec Ideal S1x1x8x128 .f32) (j : Fin 8) (l : Fin 128) :
    k0_pay12 s q (ix4 0 0 j l) = ∑ k : Fin 128, q (ix4 0 0 j k) * s (ix4 0 0 k l) := by
  unfold_payloads
  pointwise

/-! ## What a grid point leaves in its two blocks -/

/-- A row of a window, read at an index. -/
theorem loadedRow_apply {F : FTy → Type} [FloatOps F] (a : Memref sig .tc .vmem S16x64x128 .f32) (ha : a.IsWhole)
    (x : Vec F S16x64x128 .f32) (i : Fin 16) (r : Fin 64) (k : Fin 128) :
    loadedRow a ha x i.val i.isLt (ix3 0 r k) = x (ix3 i r k) := by
  unfold loadedRow
  rw [View.readAt_eq_ld, ha.read_unread]
  refine congrArg x (funext fun b => Fin.ext ?_)
  fin_cases b
  · show i.val + 1 * 0 = i.val; omega
  · show 0 + 1 * r.val = r.val; omega
  · show 0 + 1 * k.val = k.val; omega

/-- The landed tile, read at an index: the element of the old state that the transfer's source block places there. -/
theorem landedTile_apply {F : FTy → Type} [FloatOps F] (c : Dev nD) (t : Fin cfg0.N) (fh0 : HbBuf0 (F := F) c hbM0_0)
    (i : Fin 16) (h : Fin 8) (k l : Fin 128) :
    landedTile c t fh0 i.val h.val i.isLt h.isLt (ix4 0 0 k l)
      = View.read (Elt F) (srcB0_0 (Ring.bk 8 ↑t)).view fh0 (ix4 i h k l) := by
  unfold landedTile
  rw [View.readCov_eq_canon']
  show View.canon _ _ = _
  refine (congrFun (View.canon_unit_zero (off := fun _ => 0) rfl (fun a => by omega) _) _).trans ?_
  show View.read (Elt F) (srcB0_0 (Ring.bk 8 ↑t)).view fh0 _ = _
  refine congrArg _ (funext fun b => Fin.ext ?_)
  fin_cases b
  · show i.val + 1 * 0 = i.val; omega
  · show h.val + 1 * 0 = h.val; omega
  · show 0 + 1 * k.val = k.val; omega
  · show 0 + 1 * l.val = l.val; omega

/-- The new state's block of sixteen batch elements: from the block's value rows `v`, its packed columns `x` (rows 0 to
    3 of each head are the keys, row 4 the decay), and the old state's block `s`. -/
def blockState (v x : Vec Ideal S16x64x128 .f32) (s : Vec Ideal S16x8x128x128 .f32) : Vec Ideal S16x8x128x128 .f32 :=
  fun y => x (ix3 (n0 := 16) (n1 := 64) (n2 := 128) (y 0) ⟨(y 1).val * 8 + 4, by have := (y 1).isLt; simp [S16x8x128x128] at this; omega⟩ (y 2)) * s y
    + ∑ j : Fin 8, x (ix3 (n0 := 16) (n1 := 64) (n2 := 128) (y 0) ⟨(y 1).val * 8 + j.val, by have := (y 1).isLt; simp [S16x8x128x128] at this; omega⟩ (y 2))
        * v (ix3 (n0 := 16) (n1 := 64) (n2 := 128) (y 0) ⟨(y 1).val * 8 + j.val, by have := (y 1).isLt; simp [S16x8x128x128] at this; omega⟩ (y 3))

/-- The read-out's block: each head's query rows times the head's old state. -/
def blockRead (q : Vec Ideal S16x8x8x128 .f32) (s : Vec Ideal S16x8x128x128 .f32) : Vec Ideal S16x8x8x128 .f32 :=
  fun y => ∑ k : Fin 128, q (ix4 (n0 := 16) (n1 := 8) (n2 := 8) (n3 := 128) (y 0) (y 1) (y 2) k)
    * s (ix4 (n0 := 16) (n1 := 8) (n2 := 128) (n3 := 128) (y 0) (y 1) k (y 3))

variable (arg2 : Memref sig .tc .vmem S16x8x8x128 .f32) (harg2 : arg2.IsWhole)
  (arg3 : Memref sig .tc .vmem S16x64x128 .f32) (harg3 : arg3.IsWhole)
  (arg4 : Memref sig .tc .vmem S16x64x128 .f32) (harg4 : arg4.IsWhole)
  (x0 : Vec Ideal S16x8x8x128 .f32) (x1 : Vec Ideal S16x64x128 .f32) (x2 : Vec Ideal S16x64x128 .f32)
  (c : Dev nD) (t : Fin cfg0.N) (fh0 : HbBuf0 (F := Ideal) c hbM0_0)

/-- An index of a one-element, one-head tile of `n` rows. -/
theorem tileIdx {n : ℕ} (z : (⟨4, ![1, 1, n, 128]⟩ : Shape).Idx) : z = ix4 0 0 (z 2) (z 3) := by
  funext b
  fin_cases b
  · exact Subsingleton.elim (α := Fin 1) _ _
  · exact Subsingleton.elim (α := Fin 1) _ _
  · rfl
  · rfl

/-- Each of the state's stores is its part of the block's new state. -/
theorem statePiece_agrees (i : Fin 16) (h : Fin 8) (z : S1x1x128x128.Idx) :
    (statePiece arg3 harg3 arg4 harg4 x1 x2 c t fh0 i.val h.val i.isLt h.isLt).2 z
      = blockState x1 x2 (View.read (Elt Ideal) (srcB0_0 (Ring.bk 8 ↑t)).view fh0)
          ((statePiece arg3 harg3 arg4 harg4 x1 x2 c t fh0 i.val h.val i.isLt h.isLt).1.emb z) := by
  obtain ⟨k, l, rfl⟩ : ∃ k l : Fin 128, z = ix4 0 0 k l := ⟨_, _, tileIdx z⟩
  have e : (Rect.unit (s := S16x8x128x128) ![i.val, h.val, 0, 0] S1x1x128x128.size (inState i h i.isLt h.isLt)).emb (ix4 0 0 k l)
      = ix4 i h k l := by
    refine funext fun b => Fin.ext ?_
    fin_cases b
    · show i.val + 1 * 0 = i.val; omega
    · show h.val + 1 * 0 = h.val; omega
    · show 0 + 1 * k.val = k.val; omega
    · show 0 + 1 * l.val = l.val; omega
  refine Eq.trans ?_ (congrArg (blockState _ _ _) e).symm
  show stateTile (F := Ideal) _ _ _ h.val h.isLt (ix4 0 0 k l) = _
  rw [stateTile_apply, landedTile_apply]
  simp only [loadedRow_apply]
  rfl

/-- Each of the read-out's stores is its part of the block's read-out. -/
theorem queryPiece_agrees (i : Fin 16) (h : Fin 8) (z : S1x1x8x128.Idx) :
    (queryPiece arg2 harg2 x0 c t fh0 i.val h.val i.isLt h.isLt).2 z
      = blockRead x0 (View.read (Elt Ideal) (srcB0_0 (Ring.bk 8 ↑t)).view fh0)
          ((queryPiece arg2 harg2 x0 c t fh0 i.val h.val i.isLt h.isLt).1.emb z) := by
  obtain ⟨k, l, rfl⟩ : ∃ (k : Fin 8) (l : Fin 128), z = ix4 0 0 k l := ⟨_, _, tileIdx z⟩
  have e : ∀ (k : Fin 8) (l : Fin 128),
      (Rect.unit (s := S16x8x8x128) ![i.val, h.val, 0, 0] S1x1x8x128.size (inQuery i h i.isLt h.isLt)).emb (ix4 0 0 k l)
      = ix4 i h k l := by
    intro k l
    refine funext fun b => Fin.ext ?_
    fin_cases b
    · show i.val + 1 * 0 = i.val; omega
    · show h.val + 1 * 0 = h.val; omega
    · show 0 + 1 * k.val = k.val; omega
    · show 0 + 1 * l.val = l.val; omega
  refine Eq.trans ?_ (congrArg (blockRead _ _) (e k l)).symm
  show k0_pay12 (F := Ideal) _ _ (ix4 0 0 k l) = _
  rw [queryTile_apply]
  refine Finset.sum_congr rfl fun r _ => ?_
  rw [landedTile_apply, View.readAt_eq_ld, harg2.read_unread]
  refine congrArg (· * _) (congrArg x0 ?_)
  exact e k r

/-- The state's stores, read back: the block's new state. -/
theorem canon_statePieces :
    View.canon (statePieces arg3 harg3 arg4 harg4 x1 x2 c t fh0)
      = blockState x1 x2 (View.read (Elt Ideal) (srcB0_0 (Ring.bk 8 ↑t)).view fh0) := by
  funext y
  refine View.canon_apply_of_pieces _ _ ?_ y ?_
  · unfold statePieces
    rw [List.forall_mem_ofFn_iff]
    exact fun k => statePiece_agrees arg3 harg3 arg4 harg4 x1 x2 c t fh0 ⟨15 - k.val / 8, by omega⟩ ⟨7 - k.val % 8, by omega⟩
  · refine ⟨statePiece arg3 harg3 arg4 harg4 x1 x2 c t fh0 (y 0).val (y 1).val (y 0).isLt (y 1).isLt, ?_, ?_⟩
    · unfold statePieces
      rw [List.mem_ofFn]
      have h0 : (y 0).val < 16 := (y 0).isLt
      have h1 : (y 1).val < 8 := (y 1).isLt
      refine ⟨⟨(15 - (y 0).val) * 8 + (7 - (y 1).val), by omega⟩, ?_⟩
      congr 1
      · show 15 - ((15 - (y 0).val) * 8 + (7 - (y 1).val)) / 8 = _; omega
      · show 7 - ((15 - (y 0).val) * 8 + (7 - (y 1).val)) % 8 = _; omega
    · unfold statePiece
      rw [Rect.mem_set_unit]
      intro a
      fin_cases a
      · show (y 0).val ≤ (y 0).val ∧ (y 0).val < (y 0).val + 1; omega
      · show (y 1).val ≤ (y 1).val ∧ (y 1).val < (y 1).val + 1; omega
      · have := (y 2).isLt
        show 0 ≤ (y 2).val ∧ (y 2).val < 0 + 128; exact ⟨by omega, by simpa using this⟩
      · have := (y 3).isLt
        show 0 ≤ (y 3).val ∧ (y 3).val < 0 + 128; exact ⟨by omega, by simpa using this⟩

/-- The read-out's stores, read back: the block's read-out. -/
theorem canon_queryPieces :
    View.canon (queryPieces arg2 harg2 x0 c t fh0)
      = blockRead x0 (View.read (Elt Ideal) (srcB0_0 (Ring.bk 8 ↑t)).view fh0) := by
  funext y
  refine View.canon_apply_of_pieces _ _ ?_ y ?_
  · unfold queryPieces
    rw [List.forall_mem_ofFn_iff]
    exact fun k => queryPiece_agrees arg2 harg2 x0 c t fh0 ⟨15 - k.val / 8, by omega⟩ ⟨7 - k.val % 8, by omega⟩
  · refine ⟨queryPiece arg2 harg2 x0 c t fh0 (y 0).val (y 1).val (y 0).isLt (y 1).isLt, ?_, ?_⟩
    · unfold queryPieces
      rw [List.mem_ofFn]
      have h0 : (y 0).val < 16 := (y 0).isLt
      have h1 : (y 1).val < 8 := (y 1).isLt
      refine ⟨⟨(15 - (y 0).val) * 8 + (7 - (y 1).val), by omega⟩, ?_⟩
      congr 1
      · show 15 - ((15 - (y 0).val) * 8 + (7 - (y 1).val)) / 8 = _; omega
      · show 7 - ((15 - (y 0).val) * 8 + (7 - (y 1).val)) % 8 = _; omega
    · unfold queryPiece
      rw [Rect.mem_set_unit]
      intro a
      fin_cases a
      · show (y 0).val ≤ (y 0).val ∧ (y 0).val < (y 0).val + 1; omega
      · show (y 1).val ≤ (y 1).val ∧ (y 1).val < (y 1).val + 1; omega
      · have := (y 2).isLt
        show 0 ≤ (y 2).val ∧ (y 2).val < 0 + 8; exact ⟨by omega, by simpa using this⟩
      · have := (y 3).isLt
        show 0 ≤ (y 3).val ∧ (y 3).val < 0 + 128; exact ⟨by omega, by simpa using this⟩

/-! ## The arrays after the run -/

/-- The new state as one function of the arguments. -/
def stateArr (s0 : Vec Ideal S128x8x128x128 .f32) (v8 cols : Vec Ideal S8192x128 .f32) : Vec Ideal S128x8x128x128 .f32 :=
  fun y => cols (ix2 (n0 := 8192) (n1 := 128) ⟨(y 0).val * 64 + (y 1).val * 8 + 4, by have := (y 0).isLt; have := (y 1).isLt; simp [S128x8x128x128] at *; omega⟩ (y 2)) * s0 y
    + ∑ j : Fin 8, cols (ix2 (n0 := 8192) (n1 := 128) ⟨(y 0).val * 64 + (y 1).val * 8 + j.val, by have := (y 0).isLt; have := (y 1).isLt; simp [S128x8x128x128] at *; omega⟩ (y 2))
        * v8 (ix2 (n0 := 8192) (n1 := 128) ⟨(y 0).val * 64 + (y 1).val * 8 + j.val, by have := (y 0).isLt; have := (y 1).isLt; simp [S128x8x128x128] at *; omega⟩ (y 3))

/-- The read-out as one function of the arguments. -/
def readArr (s0 : Vec Ideal S128x8x128x128 .f32) (q8 : Vec Ideal S8192x128 .f32) : Vec Ideal S128x8x8x128 .f32 :=
  fun y => ∑ k : Fin 128, q8 (ix2 (n0 := 8192) (n1 := 128) ⟨(y 0).val * 64 + (y 1).val * 8 + (y 2).val, by have := (y 0).isLt; have := (y 1).isLt; have := (y 2).isLt; simp [S128x8x8x128] at *; omega⟩ k)
    * s0 (ix4 (n0 := 128) (n1 := 8) (n2 := 128) (n3 := 128) (y 0) (y 1) k (y 3))

variable (m : (ℓ : Loc nD τ sig) → Buf (Elt Ideal) ℓ)

theorem index_0 : ∀ t : Fin cfg0.N, win0_0.index t = ![t.val, 0, 0, 0] := (by decide +kernel : ∀ t : Fin grid0.N, _)
theorem index_1 : ∀ t : Fin cfg0.N, win0_1.index t = ![t.val, 0, 0] := (by decide +kernel : ∀ t : Fin grid0.N, _)
theorem index_2 : ∀ t : Fin cfg0.N, win0_2.index t = ![t.val, 0, 0] := (by decide +kernel : ∀ t : Fin grid0.N, _)
theorem index_3 : ∀ t : Fin cfg0.N, win0_3.index t = ![t.val, 0, 0, 0] := (by decide +kernel : ∀ t : Fin grid0.N, _)
theorem index_4 : ∀ t : Fin cfg0.N, win0_4.index t = ![t.val, 0, 0, 0] := (by decide +kernel : ∀ t : Fin grid0.N, _)

/-- The values' operand, as the region finds it: the argument in three axes. -/
theorem V_v1 (c : Dev nD) : V m c main_v1 = shapeCast _ (m (c.tc.loc main_arg2)) shapeCasts_S8192x128_S128x64x128 := by
  unfold V hostOps0
  after_results <;> rfl

/-- The columns' operand, as the region finds it: the argument in three axes. -/
theorem V_v2 (c : Dev nD) : V m c main_v2 = shapeCast _ (m (c.tc.loc main_arg3)) shapeCasts_S8192x128_S128x64x128 := by
  unfold V hostOps0
  after_results <;> rfl

/-- The queries' operand, as the region finds it: the argument in four axes. -/
theorem V_v0 (c : Dev nD) : V m c main_v0 = shapeCast _ (m (c.tc.loc main_arg1)) shapeCasts_S8192x128_S128x8x8x128 := by
  unfold V hostOps0
  after_results <;> rfl

/-- The transfer's source block at an index: the old state sixteen batch elements per grid point on. -/
theorem source_apply {F : FTy → Type} [FloatOps F] (c : Dev nD) (t : Fin cfg0.N) (fh0 : HbBuf0 (F := F) c hbM0_0)
    (y : S16x8x128x128.Idx) (z : S128x8x128x128.Idx) (h0 : (z 0).val = t.val * 16 + (y 0).val) (h1 : z 1 = y 1) (h2 : z 2 = y 2)
    (h3 : z 3 = y 3) : View.read (Elt F) (srcB0_0 (Ring.bk 8 ↑t)).view fh0 y = fh0 z := by
  have hN : t.val < 8 := lt_of_lt_of_eq t.isLt (show cfg0.N = 8 from N_0)
  have hb : (Ring.bk 8 t.val).val = t.val := Ring.bk_val hN
  refine congrArg fh0 (funext fun b => Fin.ext ?_)
  fin_cases b
  · show 16 * (Ring.bk 8 t.val).val + 1 * (y 0).val = (z 0).val; omega
  · show 0 + 1 * (y 1).val = (z 1).val; rw [h1]; omega
  · show 0 + 1 * (y 2).val = (z 2).val; rw [h2]; omega
  · show 0 + 1 * (y 3).val = (z 3).val; rw [h3]; omega

/-- What a point leaves in the state's staging buffer. -/
theorem after3_eq (c : Dev nD) (t : Fin cfg0.N) : (dats m 0 c).after 3 t
    = blockState (iblk m c 1 t) (iblk m c 2 t) (View.read (Elt Ideal) (srcB0_0 (Ring.bk 8 ↑t)).view (V m c main_arg0)) := by
  have hN : t.val < 8 := lt_of_lt_of_eq t.isLt (show cfg0.N = 8 from N_0)
  rw [after0_3]
  by_cases h0 : t.val % 8 = 0
  · have h1 : t.val < 6 := by omega
    rw [outsAt0_A m c t h0 h1]
    dsimp only
    unfold out0_A_3
    rw [View.read_writes_junk_eq_canon, piecesA_3, canon_statePieces]
  · by_cases h1 : t.val < 6
    · rw [outsAt0_B m c t h0 h1]
      dsimp only
      unfold out0_B_3
      rw [View.read_writes_junk_eq_canon, piecesB_3, canon_statePieces]
    · rw [outsAt0_C m c t h0 h1]
      dsimp only
      unfold out0_C_3
      rw [View.read_writes_junk_eq_canon, piecesC_3, canon_statePieces]

/-- What a point leaves in the read-out's staging buffer. -/
theorem after4_eq (c : Dev nD) (t : Fin cfg0.N) : (dats m 0 c).after 4 t
    = blockRead (iblk m c 0 t) (View.read (Elt Ideal) (srcB0_0 (Ring.bk 8 ↑t)).view (V m c main_arg0)) := by
  have hN : t.val < 8 := lt_of_lt_of_eq t.isLt (show cfg0.N = 8 from N_0)
  rw [after0_4]
  by_cases h0 : t.val % 8 = 0
  · have h1 : t.val < 6 := by omega
    rw [outsAt0_A m c t h0 h1]
    dsimp only
    unfold out0_A_4
    rw [View.read_writes_junk_eq_canon, piecesA_4, canon_queryPieces]
  · by_cases h1 : t.val < 6
    · rw [outsAt0_B m c t h0 h1]
      dsimp only
      unfold out0_B_4
      rw [View.read_writes_junk_eq_canon, piecesB_4, canon_queryPieces]
    · rw [outsAt0_C m c t h0 h1]
      dsimp only
      unfold out0_C_4
      rw [View.read_writes_junk_eq_canon, piecesC_4, canon_queryPieces]

/-- The values' block at an index. -/
theorem block1_apply (c : Dev nD) (t : Fin cfg0.N) (y : S16x64x128.Idx) (z : S8192x128.Idx)
    (h0 : (z 0).val = (t.val * 16 + (y 0).val) * 64 + (y 1).val) (h1 : (z 1).val = (y 2).val) :
    (iblk m c 1 t : Vec Ideal S16x64x128 .f32) y = (m (c.tc.loc main_arg2) : Vec Ideal S8192x128 .f32) z := by
  blk_simp [iblk]
  rw [V_v1]
  refine shapeCast_apply _ _ _ z ?_
  rw [Shape.rowMajor_val_two, Shape.rowMajor_val_three]
  blk_simp [index_1]
  rw [h0, h1]

/-- The columns' block at an index. -/
theorem block2_apply (c : Dev nD) (t : Fin cfg0.N) (y : S16x64x128.Idx) (z : S8192x128.Idx)
    (h0 : (z 0).val = (t.val * 16 + (y 0).val) * 64 + (y 1).val) (h1 : (z 1).val = (y 2).val) :
    (iblk m c 2 t : Vec Ideal S16x64x128 .f32) y = (m (c.tc.loc main_arg3) : Vec Ideal S8192x128 .f32) z := by
  blk_simp [iblk]
  rw [V_v2]
  refine shapeCast_apply _ _ _ z ?_
  rw [Shape.rowMajor_val_two, Shape.rowMajor_val_three]
  blk_simp [index_2]
  rw [h0, h1]

/-- The queries' block at an index. -/
theorem block0_apply (c : Dev nD) (t : Fin cfg0.N) (y : S16x8x8x128.Idx) (z : S8192x128.Idx)
    (h0 : (z 0).val = ((t.val * 16 + (y 0).val) * 8 + (y 1).val) * 8 + (y 2).val) (h1 : (z 1).val = (y 3).val) :
    (iblk m c 0 t : Vec Ideal S16x8x8x128 .f32) y = (m (c.tc.loc main_arg1) : Vec Ideal S8192x128 .f32) z := by
  blk_simp [iblk]
  rw [V_v0]
  refine shapeCast_apply _ _ _ z ?_
  rw [Shape.rowMajor_val_two, Shape.rowMajor_val_four]
  blk_simp [index_0]
  rw [h0, h1]

/-- The state's array after the run. -/
theorem final3 (c : Dev nD) : (dats m 0 c).arrAt 3 cfg0.N
    = stateArr (m (c.tc.loc main_arg0)) (m (c.tc.loc main_arg2)) (m (c.tc.loc main_arg3)) := by
  refine (dats m 0 c).arrAt_eq_of_covers 3 _ (by decide +kernel) fun t hf y => ?_
  blk_simp
  rw [after3_eq]
  have e0 : (((win0_3.blk t).view.emb y 0 : Fin _) : ℕ) = t.val * 16 + (y 0).val := by blk_simp [index_3]
  have e1 : ((win0_3.blk t).view.emb y 1) = y 1 := by apply Fin.ext; blk_simp [index_3]
  have e2 : ((win0_3.blk t).view.emb y 2) = y 2 := by apply Fin.ext; blk_simp [index_3]
  have e3 : ((win0_3.blk t).view.emb y 3) = y 3 := by apply Fin.ext; blk_simp [index_3]
  generalize (win0_3.blk t).view.emb y = z at e0 e1 e2 e3 ⊢
  have e1' := congrArg Fin.val e1
  have e2' := congrArg Fin.val e2
  have e3' := congrArg Fin.val e3
  refine congrArg₂ (· + ·) (congrArg₂ (· * ·) ?_ ?_) (Finset.sum_congr rfl fun j _ => congrArg₂ (· * ·) ?_ ?_)
  · refine block2_apply m c t _ _ ?_ ?_
    · show (z 0).val * 64 + (z 1).val * 8 + 4 = (t.val * 16 + (y 0).val) * 64 + ((y 1).val * 8 + 4)
      rw [e0, e1']; ring
    · exact e2'
  · rw [V_main_arg0]
    exact source_apply c t _ y z e0 e1 e2 e3
  · refine block2_apply m c t _ _ ?_ ?_
    · show (z 0).val * 64 + (z 1).val * 8 + j.val = (t.val * 16 + (y 0).val) * 64 + ((y 1).val * 8 + j.val)
      rw [e0, e1']; ring
    · exact e2'
  · refine block1_apply m c t _ _ ?_ ?_
    · show (z 0).val * 64 + (z 1).val * 8 + j.val = (t.val * 16 + (y 0).val) * 64 + ((y 1).val * 8 + j.val)
      rw [e0, e1']; ring
    · exact e3'

/-- The read-out's array after the run. -/
theorem final4 (c : Dev nD) : (dats m 0 c).arrAt 4 cfg0.N
    = readArr (m (c.tc.loc main_arg0)) (m (c.tc.loc main_arg1)) := by
  refine (dats m 0 c).arrAt_eq_of_covers 4 _ (by decide +kernel) fun t hf y => ?_
  blk_simp
  rw [after4_eq]
  have e0 : (((win0_4.blk t).view.emb y 0 : Fin _) : ℕ) = t.val * 16 + (y 0).val := by blk_simp [index_4]
  have e1 : ((win0_4.blk t).view.emb y 1) = y 1 := by apply Fin.ext; blk_simp [index_4]
  have e2 : ((win0_4.blk t).view.emb y 2) = y 2 := by apply Fin.ext; blk_simp [index_4]
  have e3 : ((win0_4.blk t).view.emb y 3) = y 3 := by apply Fin.ext; blk_simp [index_4]
  generalize (win0_4.blk t).view.emb y = z at e0 e1 e2 e3 ⊢
  have e1' := congrArg Fin.val e1
  have e2' := congrArg Fin.val e2
  have key : ∀ f g : Fin 128 → EReal, (∀ k, f k = g k) → ∑ k, f k = ∑ k, g k := fun f g h => Finset.sum_congr rfl fun k _ => h k
  refine key _ _ fun k => congrArg₂ (· * ·) ?_ ?_
  · refine block0_apply m c t _ _ ?_ rfl
    show (z 0).val * 64 + (z 1).val * 8 + (z 2).val = ((t.val * 16 + (y 0).val) * 8 + (y 1).val) * 8 + (y 2).val
    rw [e0, e1', e2']; ring
  · rw [V_main_arg0]
    exact source_apply c t _ _ _ e0 e1 rfl e3

end Cert.KernelIdeal.Gen

end
-- ==== Proof.StateClaim.lean ====
module

public import proofs.«01_k».proof.Defs
public import proofs.«01_k».proof.Proof.StateValue
public import proofs.«01_k».proof.Proof.Gen.ReferenceIdeal.Read
public import proofs.«01_k».proof.Proof.Gen.Pre_unused_rows_zero
public import Idealize.ShloMosaic.Lib.ReduceAll

@[expose] public section

set_option maxRecDepth 65536

noncomputable section

namespace Cert.Proof.State

open Idealize.ShloMosaic Idealize.ShloMosaic.TcCoe Idealize.ShloMosaic.Tactic Idealize.SL.Sem
open Cert.KernelIdeal (S8192x128 S128x8x128x128 S128x8x8x128)
open Cert.KernelIdeal.Gen (stateArr readArr final3 final4)

/-! ## The state update against its reference -/

/-- The precondition read back: the four unused rows of each head's values are zero. -/
theorem rows_zero (a0 : FVec Ideal Cert.Pre_unused_rows_zero.S128x8x128x128 .f32) (a1 a2 a3 : FVec Ideal Cert.Pre_unused_rows_zero.S8192x128 .f32)
    (hp : Cert.Pre_unused_rows_zero.fn (F := Ideal) a0 a1 a2 a3 = fun _ => 1#1)
    (b : Fin 128) (h : Fin 8) (j : Fin 4) (l : Fin 128) :
    a2 (ix2 ⟨b.val * 64 + h.val * 8 + (4 + j.val), by omega⟩ l) = (0 : EReal) := by
  have e := congrFun hp (fun a => a.elim0)
  unfold Cert.Pre_unused_rows_zero.fn at e
  haveI : Subsingleton (Cert.Pre_unused_rows_zero.S_).Idx := ⟨fun x y => funext fun a => a.elim0⟩
  have e' := Host.reduce_andi_all _ _ _ _ _ e (ix4 b h j l)
  revert e'
  pointwise
  intro e'
  by_contra hne
  rw [decide_eq_false hne] at e'
  exact absurd e' (by decide)

/-- The packed row of batch element `b`, head `h` and place `j`. -/
theorem row_lt (b : Fin 128) (h j : Fin 8) : b.val * 64 + h.val * 8 + j.val < 8192 := by omega

/-- The reference's new state is the kernel's when the unused value rows are zero. -/
theorem ref_state (s0 : Vec Ideal S128x8x128x128 .f32) (v8 cols : Vec Ideal S8192x128 .f32)
    (hz : ∀ (b : Fin 128) (h : Fin 8) (j : Fin 4) (l : Fin 128),
      v8 (ix2 ⟨b.val * 64 + h.val * 8 + (4 + j.val), by omega⟩ l) = (0 : EReal)) :
    Cert.ReferenceIdeal.Read.val_main_v12 (F := Ideal) s0 v8 cols = stateArr s0 v8 cols := by
  funext y
  obtain ⟨b, h, k, l, rfl⟩ : ∃ (b : Fin 128) (h : Fin 8) (k l : Fin 128), y = ix4 b h k l := ⟨_, _, _, _, eq_ix4 y⟩
  have hc : ∀ (i : S8192x128.Idx) (j : Fin 8) (k : Fin 128), (i 0).val = b.val * 64 + h.val * 8 + j.val → (i 1).val = k.val →
      i = ix2 ⟨b.val * 64 + h.val * 8 + j.val, row_lt b h j⟩ k := by
    intro i j k h0 h1
    funext a
    fin_cases a
    · exact Fin.ext h0
    · exact Fin.ext h1
  simp only [Cert.ReferenceIdeal.Read.val_main_v12_apply, Cert.ReferenceIdeal.Read.val_main_v11_apply,
    Cert.ReferenceIdeal.Read.val_main_v10_apply, Cert.ReferenceIdeal.Read.val_main_v9_apply, Cert.ReferenceIdeal.Read.val_main_v8_apply,
    Cert.ReferenceIdeal.Read.val_main_v7_apply, Cert.ReferenceIdeal.Read.val_main_v6_apply, Cert.ReferenceIdeal.Read.val_main_v5_apply,
    Cert.ReferenceIdeal.Read.val_main_v4_apply, Cert.ReferenceIdeal.Read.val_main_v3_apply, Cert.ReferenceIdeal.Read.val_main_v2_apply,
    Cert.ReferenceIdeal.Read.val_main_v1_apply]
  have h5 : Cert.ReferenceIdeal.Read.idx_main_v4 (Cert.ReferenceIdeal.Read.idx_main_v5
      (Cert.ReferenceIdeal.Read.idx_main_v8 (Cert.ReferenceIdeal.Read.idx_main_v9 (ix4 b h k l)))) = ix4 b h 4 k := by
    funext a
    apply Fin.ext
    fin_cases a
    · show ((b.val * 8 + h.val) * 128 + k.val) / 1024 = b.val; omega
    · show ((b.val * 8 + h.val) * 128 + k.val) / 128 % 8 = h.val; omega
    · rfl
    · show ((b.val * 8 + h.val) * 128 + k.val) % 128 = k.val; omega
  rw [h5]
  unfold stateArr
  refine congrArg₂ (fun x y : EReal => x + y) (congrArg₂ (fun x y : EReal => x * y) ?_ rfl) ?_
  · refine congrArg cols (hc _ 4 k ?_ ?_)
    · show (((b.val * 8 + h.val) * 8 + 4) * 128 + k.val) / 128 = b.val * 64 + h.val * 8 + 4; omega
    · show (((b.val * 8 + h.val) * 8 + 4) * 128 + k.val) % 128 = k.val; omega
  · rw [Fin.sum_univ_add (a := 4) (b := 4)]
    refine (add_zero _).symm.trans (congrArg₂ (fun x y : EReal => x + y) (Finset.sum_congr rfl fun j _ => ?_) ?_)
    · refine congrArg₂ (fun x y : EReal => x * y) (congrArg cols (hc _ (Fin.castAdd 4 j) k ?_ ?_)) (congrArg v8 (hc _ (Fin.castAdd 4 j) l ?_ ?_))
      · show (((b.val * 8 + h.val) * 8 + j.val) * 128 + k.val) / 128 = b.val * 64 + h.val * 8 + j.val; omega
      · show (((b.val * 8 + h.val) * 8 + j.val) * 128 + k.val) % 128 = k.val; omega
      · show (((b.val * 8 + h.val) * 8 + j.val) * 128 + l.val) / 128 = b.val * 64 + h.val * 8 + j.val; omega
      · show (((b.val * 8 + h.val) * 8 + j.val) * 128 + l.val) % 128 = l.val; omega
    · refine (Finset.sum_eq_zero fun j _ => ?_).symm
      refine (congrArg (fun y : EReal => _ * y) (hz b h j l)).trans (mul_zero _)

/-- The reference's read-out is the kernel's. -/
theorem ref_read (s0 : Vec Ideal S128x8x128x128 .f32) (q8 : Vec Ideal S8192x128 .f32) :
    Cert.ReferenceIdeal.Read.val_main_v13 (F := Ideal) s0 q8 = readArr s0 q8 := by
  funext y
  obtain ⟨b, h, j, l, rfl⟩ : ∃ (b : Fin 128) (h : Fin 8) (j : Fin 8) (l : Fin 128), y = ix4 b h j l := ⟨_, _, _, _, eq_ix4 y⟩
  rw [Cert.ReferenceIdeal.Read.val_main_v13_apply]
  unfold readArr
  refine Finset.sum_congr rfl fun k _ => ?_
  rw [Cert.ReferenceIdeal.Read.val_main_v0_apply]
  refine congrArg₂ (fun x y : EReal => x * y) (congrArg q8 (funext fun a => Fin.ext ?_)) (congrArg s0 (funext fun a => Fin.ext ?_))
  · fin_cases a
    · show (((b.val * 8 + h.val) * 8 + j.val) * 128 + k.val) / 128 = b.val * 64 + h.val * 8 + j.val; omega
    · show (((b.val * 8 + h.val) * 8 + j.val) * 128 + k.val) % 128 = k.val; omega
  · fin_cases a <;> rfl

/-- The state update's result arrays are its reference's, in exact arithmetic, when the unused rows are zero. -/
theorem algebraic_state : Cert.algebraic_KernelIdeal_ReferenceIdeal_pre_unused_rows_zero := by
  intro m g m' g' hpre hargs
  refine ⟨fun c => stateArr (m (c.tc.loc Cert.KernelIdeal.main_arg0)) (m (c.tc.loc Cert.KernelIdeal.main_arg2)) (m (c.tc.loc Cert.KernelIdeal.main_arg3)),
    fun c => readArr (m (c.tc.loc Cert.KernelIdeal.main_arg0)) (m (c.tc.loc Cert.KernelIdeal.main_arg1)), ?_, ?_⟩
  · refine (θ_run _ _ _).mono (fun r h c => ?_) (Cert.KernelIdeal.Value.run_blocks m g)
    exact ⟨(h c).1.trans (final3 m c), (h c).2.1.trans (final4 m c), (h c).2.2⟩
  · refine (θ_run _ _ _).mono (fun r h c => ?_) (Cert.ReferenceIdeal.Value.run m' g')
    obtain ⟨h0, h1, h2, h3⟩ := hargs c
    refine ⟨(h c).1.trans ?_, (h c).2.1.trans ?_, (h c).2.2⟩
    · rw [Cert.ReferenceIdeal.Read.val_main_v12_eq, ref_state, h0, h2, h3]
      rw [h2]
      exact rows_zero _ _ _ _ (hpre c)
    · rw [Cert.ReferenceIdeal.Read.val_main_v13_eq, ref_read, h0, h1]

/-- The reference of the state update ends with its arguments as they were; it has no semaphore. -/
theorem quiescent_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

end Cert.Proof.State

end
-- ==== Proof.MlpRuns.lean ====
module

public import proofs.«01_k».proof.Proof.Gen.Kernel2Ideal.Frame
public import proofs.«01_k».proof.Proof.Gen.Kernel2Ideal.Skeleton

@[expose] public section

set_option maxRecDepth 65536

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first `scf.if` runs at the points before point 8. -/
theorem cond1_iff : ∀ t : Fin cfg0.N, k0_cond1 (grid0.coords t) = 1#1 ↔ t.val < 8 :=
  (by decide +kernel : ∀ t : Fin grid0.N, k0_cond1 (grid0.coords t) = 1#1 ↔ t.val < 8)

set_option maxHeartbeats 1000000 in
/-- The body at a point before point 8, run from memrefs holding `x0 … u`: it writes pieces into the two weight scratch
    buffers, over what they held, and leaves everything else as it was. -/
noncomputable def runCast (c : Dev nD) (i : grid0.Coords) (arg1 : Memref sig .tc .vmem S1024x1024 .f32) (harg1 : arg1.IsWhole) (arg2 : Memref sig .tc .vmem S128x4096 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S128x4096 .f32) (harg8 : arg8.IsWhole) (arg9 : Memref sig .tc .vmem S8x1024x512 .bf16) (harg9 : arg9.IsWhole) (arg10 : Memref sig .tc .vmem S8x512x1024 .bf16) (harg10 : arg10.IsWhole) (hc0 : k0_cond1 i = 1#1) (hc1 : ¬k0_cond2 i = 1#1) (hc2 : ¬k0_cond3 i = 1#1)
    (x0 : Vec F S1024x1024 .f32) (x1 : Vec F S128x4096 .f32) (x2 : Vec F S1x1024 .f32) (x3 : Vec F S1024x512 .f32) (x4 : Vec F S512x1024 .f32) (x5 : Vec F S1x1024 .f32) (d6 : Vec F S1024x1024 .f32) (d7 : Vec F S128x4096 .f32) (w : Vec F S8x1024x512 .bf16) (u : Vec F S8x512x1024 .bf16) :
    Σ' (L : List (View.Piece (Elt F) S8x1024x512 .bf16)), { L' : List (View.Piece (Elt F) S8x512x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d6 ∗ owns (c : Thread nD τ) arg8 fullShare d7 ∗ owns (c : Thread nD τ) arg9 fullShare w ∗ owns (c : Thread nD τ) arg10 fullShare u
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d6 ∗ owns (c : Thread nD τ) arg8 fullShare d7 ∗ (arg9.view.loc (c : Thread nD τ) ↦[arg9.view.set]{fullShare} arg9.view.writes (Elt F) (harg9.unread w) L) ∗ (arg10.view.loc (c : Thread nD τ) ↦[arg10.view.set]{fullShare} arg10.view.writes (Elt F) (harg10.unread u) L')) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0_mlp_eq_skeleton]; unfold cc0_mlp_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexact H8
    iexact H9

set_option maxHeartbeats 1000000 in
/-- The body at a point of the prompt, run from memrefs holding `x0 … u`: it writes pieces into the prompt's output
    block and leaves everything else as it was. -/
noncomputable def runTile (c : Dev nD) (i : grid0.Coords) (arg1 : Memref sig .tc .vmem S1024x1024 .f32) (harg1 : arg1.IsWhole) (arg2 : Memref sig .tc .vmem S128x4096 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S128x4096 .f32) (harg8 : arg8.IsWhole) (arg9 : Memref sig .tc .vmem S8x1024x512 .bf16) (harg9 : arg9.IsWhole) (arg10 : Memref sig .tc .vmem S8x512x1024 .bf16) (harg10 : arg10.IsWhole) (hc0 : ¬k0_cond1 i = 1#1) (hc1 : k0_cond2 i = 1#1) (hc2 : ¬k0_cond3 i = 1#1)
    (x0 : Vec F S1024x1024 .f32) (x1 : Vec F S128x4096 .f32) (x2 : Vec F S1x1024 .f32) (x3 : Vec F S1024x512 .f32) (x4 : Vec F S512x1024 .f32) (x5 : Vec F S1x1024 .f32) (d6 : Vec F S1024x1024 .f32) (d7 : Vec F S128x4096 .f32) (w : Vec F S8x1024x512 .bf16) (u : Vec F S8x512x1024 .bf16) :
    { L : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d6 ∗ owns (c : Thread nD τ) arg8 fullShare d7 ∗ owns (c : Thread nD τ) arg9 fullShare w ∗ owns (c : Thread nD τ) arg10 fullShare u
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L) ∗ owns (c : Thread nD τ) arg8 fullShare d7 ∗ owns (c : Thread nD τ) arg9 fullShare w ∗ owns (c : Thread nD τ) arg10 fullShare u) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10) K } := by
  refine ⟨?_, fun E K => ?run⟩
  case run =>
    simp only [cc0_mlp_eq_skeleton]; unfold cc0_mlp_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    iexists _; isplitr; · ipureintro; exact harg10.read_unread _
    iexact H9

set_option maxHeartbeats 1000000 in
/-- The body at the last point, run from memrefs holding `x0 … u`: it writes pieces into the sample's output block and
    leaves everything else as it was. -/
noncomputable def runSample (c : Dev nD) (i : grid0.Coords) (arg1 : Memref sig .tc .vmem S1024x1024 .f32) (harg1 : arg1.IsWhole) (arg2 : Memref sig .tc .vmem S128x4096 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S128x4096 .f32) (harg8 : arg8.IsWhole) (arg9 : Memref sig .tc .vmem S8x1024x512 .bf16) (harg9 : arg9.IsWhole) (arg10 : Memref sig .tc .vmem S8x512x1024 .bf16) (harg10 : arg10.IsWhole) (hc0 : ¬k0_cond1 i = 1#1) (hc1 : ¬k0_cond2 i = 1#1) (hc2 : k0_cond3 i = 1#1)
    (x0 : Vec F S1024x1024 .f32) (x1 : Vec F S128x4096 .f32) (x2 : Vec F S1x1024 .f32) (x3 : Vec F S1024x512 .f32) (x4 : Vec F S512x1024 .f32) (x5 : Vec F S1x1024 .f32) (d6 : Vec F S1024x1024 .f32) (d7 : Vec F S128x4096 .f32) (w : Vec F S8x1024x512 .bf16) (u : Vec F S8x512x1024 .bf16) :
    { L : List (View.Piece (Elt F) S128x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d6 ∗ owns (c : Thread nD τ) arg8 fullShare d7 ∗ owns (c : Thread nD τ) arg9 fullShare w ∗ owns (c : Thread nD τ) arg10 fullShare u
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d6 ∗ (∃ f, arg8.view.loc (c : Thread nD τ) ↦[arg8.view.set]{fullShare} arg8.view.writes (Elt F) f L) ∗ owns (c : Thread nD τ) arg9 fullShare w ∗ owns (c : Thread nD τ) arg10 fullShare u) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10) K } := by
  refine ⟨?_, fun E K => ?run⟩
  case run =>
    simp only [cc0_mlp_eq_skeleton]; unfold cc0_mlp_skel
    simp only [k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    iexists _; isplitr; · ipureintro; exact harg10.read_unread _
    iexact H9

end Cert.Kernel2Ideal.Gen

end
-- ==== Proof.MlpPieces.lean ====
module

public import proofs.«01_k».proof.Proof.MlpRuns
public import Idealize.ShloMosaic.Lib.Pointwise
public import Idealize.ShloMosaic.Lib.VecWindow
public import Idealize.ShloMosaic.Lib.WritesUnit

@[expose] public section

set_option maxRecDepth 65536

noncomputable section

namespace Cert.Kernel2Ideal.Gen

open Idealize.ShloMosaic Idealize.ShloMosaic.TcCoe Idealize.ShloMosaic.Tactic

variable {F : FTy → Type} [FloatOps F]

/-! ## What 512 rows of the MLP are computed as

The prompt's two half tiles and the sample's 512 rows are the same term over their rows, the two norm gains and the
eight chunks of the two weights. -/

/-- Each row divided by its root mean square. -/
def rmsRows (x : FVec F S512x1024 .f32) : FVec F S512x1024 .f32 :=
  mulf x (broadcastTo S512x1024
    (rsqrt (addf (divf (shapeCast S512x1 (multiReduction .add [1] S512 (mulf x x) 0x00000000#32 reduces_S512x1024_S512 (.inl rfl) rfl) shapeCasts_S512_S512x1)
      (broadcast S512x1 (Scalar.ofBits .f32 0x44800000#32))) (broadcast S512x1 (Scalar.ofBits .f32 0x358637BD#32))))
    broadcasts_S512x1_S512x1024)

/-- The normalised rows under a gain, the up projection's left operand. -/
def normRows (x : FVec F S512x1024 .f32) (g : Vec F S1x1024 .f32) : FVec F S512x1024 .bf16 :=
  truncf .bf16 (mulf (rmsRows x) (broadcastTo S512x1024 g broadcasts_S1x1024_S512x1024)) bitsLt_bf16_f32

/-- One chunk of the hidden layer: the squared positive part of the up projection's 512 columns. -/
def hiddenChunk (h : FVec F S512x1024 .bf16) (w : Vec F S1x1024x512 .bf16) : FVec F S512x512 .bf16 :=
  have r : FVec F S512x512 .f32 := maximumf
    (matmul dot_S512x1024_S1024x512_S512x512_1_0_0_1_n_n none h (shapeCast S1024x512 w shapeCasts_S1x1024x512_S1024x512) (constant S512x512 .f32 0x00000000#32))
    (broadcast S512x512 (Scalar.ofBits .f32 0x00000000#32))
  truncf .bf16 (mulf r r) bitsLt_bf16_f32

/-- One chunk's part of the down projection. -/
def downChunk (h : FVec F S512x1024 .bf16) (w : Vec F S1x1024x512 .bf16) (u : Vec F S1x512x1024 .bf16) : FVec F S512x1024 .f32 :=
  matmul dot_S512x512_S512x1024_S512x1024_1_0_0_1_n_n none (hiddenChunk h w)
    (shapeCast S512x1024 u shapeCasts_S1x512x1024_S512x1024) (constant S512x1024 .f32 0x00000000#32)

/-- The eight chunks' parts, added from the left. -/
def downRows (h : FVec F S512x1024 .bf16) (w : Fin 8 → Vec F S1x1024x512 .bf16) (u : Fin 8 → Vec F S1x512x1024 .bf16) : FVec F S512x1024 .f32 :=
  addf (addf (addf (addf (addf (addf (addf (downChunk h (w 0) (u 0)) (downChunk h (w 1) (u 1))) (downChunk h (w 2) (u 2)))
    (downChunk h (w 3) (u 3))) (downChunk h (w 4) (u 4))) (downChunk h (w 5) (u 5))) (downChunk h (w 6) (u 6))) (downChunk h (w 7) (u 7))

/-- 512 rows of the MLP block: the rows plus the normalised MLP of the normalised rows. -/
def mlpRows (x : FVec F S512x1024 .f32) (g : Vec F S1x1024 .f32) (w : Fin 8 → Vec F S1x1024x512 .bf16)
    (u : Fin 8 → Vec F S1x512x1024 .bf16) (g2 : Vec F S1x1024 .f32) : FVec F S512x1024 .f32 :=
  addf x (mulf (rmsRows (downRows (normRows x g) w u)) (broadcastTo S512x1024 g2 broadcasts_S1x1024_S512x1024))

/-- Chunk `k` of the up weights lies in its scratch buffer. -/
theorem inUp (k : Fin 8) : ∀ a, (![k.val, 0, 0] : Fin 3 → ℕ) a + S1x1024x512.size a ≤ S8x1024x512.size a := by
  intro a; fin_cases a <;> simp [S1x1024x512, S8x1024x512] <;> omega

/-- Chunk `k` of the down weights lies in its scratch buffer. -/
theorem inDown (k : Fin 8) : ∀ a, (![k.val, 0, 0] : Fin 3 → ℕ) a + S1x512x1024.size a ≤ S8x512x1024.size a := by
  intro a; fin_cases a <;> simp [S1x512x1024, S8x512x1024] <;> omega

/-- Half a tile's rows from row `r`. -/
theorem inTile (r : ℕ) (h : r ≤ 512) : ∀ a, (![r, 0] : Fin 2 → ℕ) a + S512x1024.size a ≤ S1024x1024.size a := by
  intro a; fin_cases a <;> simp [S512x1024, S1024x1024] <;> omega

/-- One step's columns of the sample from column `s`. -/
theorem inSample (s : ℕ) (h : s ≤ 3072) : ∀ a, (![0, s] : Fin 2 → ℕ) a + S128x1024.size a ≤ S128x4096.size a := by
  intro a; fin_cases a <;> simp [S128x1024, S128x4096] <;> omega

/-- The sample's four steps, one under another. -/
def stackSteps (f : ∀ s : ℕ, s ≤ 3072 → FVec F S128x1024 .f32) : FVec F S512x1024 .f32 :=
  concatenate S512x1024 0 [⟨S128x1024, f 0 (by omega)⟩, ⟨S128x1024, f 1024 (by omega)⟩,
    ⟨S128x1024, f 2048 (by omega)⟩, ⟨S128x1024, f 3072 (by omega)⟩]
    concatenates_S128x1024_S128x1024_S128x1024_S128x1024_S512x1024_d0

section
variable (c : Dev nD) (i : grid0.Coords)
  (arg1 : Memref sig .tc .vmem S1024x1024 .f32) (harg1 : arg1.IsWhole) (arg2 : Memref sig .tc .vmem S128x4096 .f32) (harg2 : arg2.IsWhole)
  (arg3 : Memref sig .tc .vmem S1x1024 .f32) (harg3 : arg3.IsWhole) (arg4 : Memref sig .tc .vmem S1024x512 .f32) (harg4 : arg4.IsWhole)
  (arg5 : Memref sig .tc .vmem S512x1024 .f32) (harg5 : arg5.IsWhole) (arg6 : Memref sig .tc .vmem S1x1024 .f32) (harg6 : arg6.IsWhole)
  (arg7 : Memref sig .tc .vmem S1024x1024 .f32) (harg7 : arg7.IsWhole) (arg8 : Memref sig .tc .vmem S128x4096 .f32) (harg8 : arg8.IsWhole)
  (arg9 : Memref sig .tc .vmem S8x1024x512 .bf16) (harg9 : arg9.IsWhole) (arg10 : Memref sig .tc .vmem S8x512x1024 .bf16) (harg10 : arg10.IsWhole)
  (x0 : Vec F S1024x1024 .f32) (x1 : Vec F S128x4096 .f32) (x2 : Vec F S1x1024 .f32) (x3 : Vec F S1024x512 .f32)
  (x4 : Vec F S512x1024 .f32) (x5 : Vec F S1x1024 .f32) (d6 : Vec F S1024x1024 .f32) (d7 : Vec F S128x4096 .f32)
  (w : Vec F S8x1024x512 .bf16) (u : Vec F S8x512x1024 .bf16)

/-- Chunk `k` of the up weights, as the body loads it. -/
def loadUp (k : Fin 8) : Vec F S1x1024x512 .bf16 :=
  View.readAt (Elt F) arg9.view (Rect.unit (s := S8x1024x512) ![k.val, 0, 0] S1x1024x512.size (inUp k)).toLoadRect (harg9.unread w)

/-- Chunk `k` of the down weights, as the body loads it. -/
def loadDown (k : Fin 8) : Vec F S1x512x1024 .bf16 :=
  View.readAt (Elt F) arg10.view (Rect.unit (s := S8x512x1024) ![k.val, 0, 0] S1x512x1024.size (inDown k)).toLoadRect (harg10.unread u)

/-- A gain, as the body loads it. -/
def loadGain (a : Memref sig .tc .vmem S1x1024 .f32) (ha : a.IsWhole) (x : Vec F S1x1024 .f32) : Vec F S1x1024 .f32 :=
  View.readAt (Elt F) a.view (Rect.unit (s := S1x1024) ![0, 0] S1x1024.size (fun a => by fin_cases a <;> simp [S1x1024])).toLoadRect (ha.unread x)

/-- Half a tile's rows from row `r`, as the body loads them. -/
def loadHalf (r : ℕ) (hr : r ≤ 512) : FVec F S512x1024 .f32 :=
  View.readAt (Elt F) arg1.view (Rect.unit (s := S1024x1024) ![r, 0] S512x1024.size (inTile r hr)).toLoadRect (harg1.unread x0)

/-- One step's columns of the sample, as the body loads them. -/
def loadStep (s : ℕ) (hs : s ≤ 3072) : FVec F S128x1024 .f32 :=
  View.readAt (Elt F) arg2.view (Rect.unit (s := S128x4096) ![0, s] S128x1024.size (inSample s hs)).toLoadRect (harg2.unread x1)

/-- The sample's four steps, one under another, as the body loads them. -/
def loadSteps : FVec F S512x1024 .f32 := stackSteps (loadStep arg2 harg2 x1)

/-- The up weights' window, as the body loads it. -/
def loadUpWindow : Vec F S1024x512 .f32 :=
  View.readAt (Elt F) arg4.view (Rect.unit (s := S1024x512) ![0, 0] S1024x512.size (fun a => by fin_cases a <;> simp [S1024x512])).toLoadRect (harg4.unread x3)

/-- The down weights' window, as the body loads it. -/
def loadDownWindow : Vec F S512x1024 .f32 :=
  View.readAt (Elt F) arg5.view (Rect.unit (s := S512x1024) ![0, 0] S512x1024.size (fun a => by fin_cases a <;> simp [S512x1024])).toLoadRect (harg5.unread x4)

/-- Half a tile of the prompt. -/
def halfRows (r : ℕ) (hr : r ≤ 512) : FVec F S512x1024 .f32 :=
  mlpRows (loadHalf arg1 harg1 x0 r hr) (loadGain arg3 harg3 x2) (loadUp arg9 harg9 w) (loadDown arg10 harg10 u) (loadGain arg6 harg6 x5)

/-- The sample's 512 rows. -/
def sampleRows : FVec F S512x1024 .f32 :=
  mlpRows (loadSteps arg2 harg2 x1) (loadGain arg3 harg3 x2) (loadUp arg9 harg9 w) (loadDown arg10 harg10 u) (loadGain arg6 harg6 x5)

/-- What a point of the prompt stores: the two half tiles. -/
theorem runTile_pieces (hc0 : ¬ k0_cond1 i = 1#1) (hc1 : k0_cond2 i = 1#1) (hc2 : ¬ k0_cond3 i = 1#1) :
    (runTile c i arg1 harg1 arg2 harg2 arg3 harg3 arg4 harg4 arg5 harg5 arg6 harg6 arg7 harg7 arg8 harg8 arg9 harg9 arg10 harg10 hc0 hc1 hc2 x0 x1 x2 x3 x4 x5 d6 d7 w u).1 =
      [⟨Rect.unit ![512, 0] S512x1024.size (inTile 512 (by omega)), halfRows arg1 harg1 arg3 harg3 arg6 harg6 arg9 harg9 arg10 harg10 x0 x2 x5 w u 512 (by omega)⟩,
       ⟨Rect.unit ![0, 0] S512x1024.size (inTile 0 (by omega)), halfRows arg1 harg1 arg3 harg3 arg6 harg6 arg9 harg9 arg10 harg10 x0 x2 x5 w u 0 (by omega)⟩] := by
  sl_kernel_rfl

/-- Step `s` of the sample's rows. -/
def stepRows (s : ℕ) (h : S512x1024.Slices ![s, 0] S128x1024) : FVec F S128x1024 .f32 :=
  extractStridedSlice S128x1024 ![s, 0] (sampleRows arg2 harg2 arg3 harg3 arg6 harg6 arg9 harg9 arg10 harg10 x1 x2 x5 w u) h

/-- What the last point stores: the sample's rows, step by step. -/
theorem runSample_pieces (hc0 : ¬ k0_cond1 i = 1#1) (hc1 : ¬ k0_cond2 i = 1#1) (hc2 : k0_cond3 i = 1#1) :
    (runSample c i arg1 harg1 arg2 harg2 arg3 harg3 arg4 harg4 arg5 harg5 arg6 harg6 arg7 harg7 arg8 harg8 arg9 harg9 arg10 harg10 hc0 hc1 hc2 x0 x1 x2 x3 x4 x5 d6 d7 w u).1 =
      [⟨Rect.unit ![0, 3072] S128x1024.size (inSample 3072 (by omega)), stepRows arg2 harg2 arg3 harg3 arg6 harg6 arg9 harg9 arg10 harg10 x1 x2 x5 w u 384 slices_S512x1024_o384_0_S128x1024⟩,
       ⟨Rect.unit ![0, 2048] S128x1024.size (inSample 2048 (by omega)), stepRows arg2 harg2 arg3 harg3 arg6 harg6 arg9 harg9 arg10 harg10 x1 x2 x5 w u 256 slices_S512x1024_o256_0_S128x1024⟩,
       ⟨Rect.unit ![0, 1024] S128x1024.size (inSample 1024 (by omega)), stepRows arg2 harg2 arg3 harg3 arg6 harg6 arg9 harg9 arg10 harg10 x1 x2 x5 w u 128 slices_S512x1024_o128_0_S128x1024⟩,
       ⟨Rect.unit ![0, 0] S128x1024.size (inSample 0 (by omega)), stepRows arg2 harg2 arg3 harg3 arg6 harg6 arg9 harg9 arg10 harg10 x1 x2 x5 w u 0 slices_S512x1024_o0_0_S128x1024⟩] := by
  sl_kernel_rfl

/-- What a point before point 8 stores into the up weights' scratch buffer: its chunk. -/
theorem runCast_up (hc0 : k0_cond1 i = 1#1) (hc1 : ¬ k0_cond2 i = 1#1) (hc2 : ¬ k0_cond3 i = 1#1) :
    (runCast c i arg1 harg1 arg2 harg2 arg3 harg3 arg4 harg4 arg5 harg5 arg6 harg6 arg7 harg7 arg8 harg8 arg9 harg9 arg10 harg10 hc0 hc1 hc2 x0 x1 x2 x3 x4 x5 d6 d7 w u).1 =
      [⟨Rect.unit (k0_off1 i) S1x1024x512.size (k0_off1_inb i hc0),
        k0_pay1 (loadUpWindow arg4 harg4 x3)⟩] := by
  sl_kernel_rfl

/-- What a point before point 8 stores into the down weights' scratch buffer: its chunk. -/
theorem runCast_down (hc0 : k0_cond1 i = 1#1) (hc1 : ¬ k0_cond2 i = 1#1) (hc2 : ¬ k0_cond3 i = 1#1) :
    (runCast c i arg1 harg1 arg2 harg2 arg3 harg3 arg4 harg4 arg5 harg5 arg6 harg6 arg7 harg7 arg8 harg8 arg9 harg9 arg10 harg10 hc0 hc1 hc2 x0 x1 x2 x3 x4 x5 d6 d7 w u).2.1 =
      [⟨Rect.unit (k0_off2 i) S1x512x1024.size (k0_off2_inb i hc0),
        k0_pay2 (loadDownWindow arg5 harg5 x4)⟩] := by
  sl_kernel_rfl

/-! ## The same, without the buffers -/

/-- Chunk `k` of the up weights' buffer. -/
def upChunk (w : Vec F S8x1024x512 .bf16) (k : Fin 8) : Vec F S1x1024x512 .bf16 :=
  View.ld w (Rect.unit (s := S8x1024x512) ![k.val, 0, 0] S1x1024x512.size (inUp k))

/-- Chunk `k` of the down weights' buffer. -/
def downChunkOf (u : Vec F S8x512x1024 .bf16) (k : Fin 8) : Vec F S1x512x1024 .bf16 :=
  View.ld u (Rect.unit (s := S8x512x1024) ![k.val, 0, 0] S1x512x1024.size (inDown k))

/-- Half a tile's rows from row `r`. -/
def halfTile (x0 : Vec F S1024x1024 .f32) (r : ℕ) (hr : r ≤ 512) : FVec F S512x1024 .f32 :=
  View.ld x0 (Rect.unit (s := S1024x1024) ![r, 0] S512x1024.size (inTile r hr))

/-- One step's columns of the sample. -/
def stepOf (x1 : Vec F S128x4096 .f32) (s : ℕ) (hs : s ≤ 3072) : FVec F S128x1024 .f32 :=
  View.ld x1 (Rect.unit (s := S128x4096) ![0, s] S128x1024.size (inSample s hs))

/-- The sample's four steps, one under another. -/
def stepsOf (x1 : Vec F S128x4096 .f32) : FVec F S512x1024 .f32 := stackSteps (stepOf x1)

/-- A prompt tile's output: its two halves. -/
def tileVal (x0 : Vec F S1024x1024 .f32) (g : Vec F S1x1024 .f32) (W : Fin 8 → Vec F S1x1024x512 .bf16)
    (U : Fin 8 → Vec F S1x512x1024 .bf16) (g2 : Vec F S1x1024 .f32) : Vec F S1024x1024 .f32 := fun y =>
  if h : (y 0).val < 512 then mlpRows (halfTile x0 0 (by omega)) g W U g2 (ix2 ⟨(y 0).val, h⟩ (y 1))
  else mlpRows (halfTile x0 512 (by omega)) g W U g2 (ix2 ⟨(y 0).val - 512, by have : (y 0).val < 1024 := (y 0).isLt; omega⟩ (y 1))

/-- The sample's output: row `n`'s step `t` is row `128 t + n` of the 512. -/
def sampleVal (x1 : Vec F S128x4096 .f32) (g : Vec F S1x1024 .f32) (W : Fin 8 → Vec F S1x1024x512 .bf16)
    (U : Fin 8 → Vec F S1x512x1024 .bf16) (g2 : Vec F S1x1024 .f32) : Vec F S128x4096 .f32 := fun y =>
  mlpRows (stepsOf x1) g W U g2
    (ix2 ⟨(y 1).val / 1024 * 128 + (y 0).val, by have h0 : (y 0).val < 128 := (y 0).isLt; have h1 : (y 1).val < 4096 := (y 1).isLt; omega⟩
      ⟨(y 1).val % 1024, by omega⟩)

theorem loadUp_eq : loadUp arg9 harg9 w = upChunk w := by
  funext k; unfold loadUp; rw [View.readAt_eq_ld, harg9.read_unread]; rfl

theorem loadDown_eq : loadDown arg10 harg10 u = downChunkOf u := by
  funext k; unfold loadDown; rw [View.readAt_eq_ld, harg10.read_unread]; rfl

theorem loadGain_eq : loadGain arg3 harg3 x2 = x2 := by
  unfold loadGain; exact (View.readAt_full _ _ _).trans (harg3.read_unread _)

theorem loadHalf_eq (r : ℕ) (hr : r ≤ 512) : loadHalf arg1 harg1 x0 r hr = halfTile x0 r hr := by
  unfold loadHalf; rw [View.readAt_eq_ld, harg1.read_unread]; rfl

theorem loadStep_eq (s : ℕ) (hs : s ≤ 3072) : loadStep arg2 harg2 x1 s hs = stepOf x1 s hs := by
  unfold loadStep; rw [View.readAt_eq_ld, harg2.read_unread]; rfl

theorem loadSteps_eq : loadSteps arg2 harg2 x1 = stepsOf x1 := by
  unfold loadSteps stepsOf
  exact congrArg stackSteps (funext fun s => funext fun hs => loadStep_eq arg2 harg2 x1 s hs)

theorem loadUpWindow_eq : loadUpWindow arg4 harg4 x3 = x3 := by
  unfold loadUpWindow; exact (View.readAt_full _ _ _).trans (harg4.read_unread _)

theorem loadDownWindow_eq : loadDownWindow arg5 harg5 x4 = x4 := by
  unfold loadDownWindow; exact (View.readAt_full _ _ _).trans (harg5.read_unread _)

/-- What the prompt's output block reads after its point. -/
theorem tile_reads (hc0 : ¬ k0_cond1 i = 1#1) (hc1 : k0_cond2 i = 1#1) (hc2 : ¬ k0_cond3 i = 1#1) (f : arg7.view.ty.Contents (Elt F)) :
    arg7.view.read (Elt F) (arg7.view.writes (Elt F) f (runTile c i arg1 harg1 arg2 harg2 arg3 harg3 arg4 harg4 arg5 harg5 arg6 harg6 arg7 harg7 arg8 harg8 arg9 harg9 arg10 harg10 hc0 hc1 hc2 x0 x1 x2 x3 x4 x5 d6 d7 w u).1)
      = tileVal x0 x2 (upChunk w) (downChunkOf u) x5 := by
  rw [runTile_pieces]
  funext y
  have h0 : (y 0).val < 1024 := (y 0).isLt
  unfold tileVal halfRows
  simp only [loadUp_eq, loadDown_eq, loadGain_eq, loadHalf_eq]
  split
  · rename_i h
    rw [View.read_writes_cons_unit_of_not_mem _ _ _ _ _ y rfl 0 (.inl (by simpa using h))]
    exact View.read_writes_cons_unit_of_mem _ _ _ _ _ y _ rfl (fun a => by fin_cases a <;> simp)
  · rename_i h
    exact View.read_writes_cons_unit_of_mem _ _ _ _ _ y _ rfl (fun a => by fin_cases a <;> simp; omega)

/-- What the sample's output block reads after the last point. -/
theorem sample_reads (hc0 : ¬ k0_cond1 i = 1#1) (hc1 : ¬ k0_cond2 i = 1#1) (hc2 : k0_cond3 i = 1#1) (f : arg8.view.ty.Contents (Elt F)) :
    arg8.view.read (Elt F) (arg8.view.writes (Elt F) f (runSample c i arg1 harg1 arg2 harg2 arg3 harg3 arg4 harg4 arg5 harg5 arg6 harg6 arg7 harg7 arg8 harg8 arg9 harg9 arg10 harg10 hc0 hc1 hc2 x0 x1 x2 x3 x4 x5 d6 d7 w u).1)
      = sampleVal x1 x2 (upChunk w) (downChunkOf u) x5 := by
  rw [runSample_pieces]
  funext y
  have h0 : (y 0).val < 128 := (y 0).isLt
  have h1 : (y 1).val < 4096 := (y 1).isLt
  -- the piece of column block `b` holds the sample's rows from `128 b`
  have hit : ∀ (b : ℕ) (hb : b ≤ 3) (hs : S512x1024.Slices ![b * 128, 0] S128x1024) (hy : (y 1).val / 1024 = b) (L : List (View.Piece (Elt F) S128x4096 .f32)),
      arg8.view.read (Elt F) (arg8.view.writes (Elt F) f (⟨Rect.unit ![0, b * 1024] S128x1024.size (inSample (b * 1024) (by omega)),
        stepRows arg2 harg2 arg3 harg3 arg6 harg6 arg9 harg9 arg10 harg10 x1 x2 x5 w u (b * 128) hs⟩ :: L)) y
        = sampleVal x1 x2 (upChunk w) (downChunkOf u) x5 y := by
    intro b hb hs hy L
    refine (View.read_writes_cons_unit_of_mem _ _ _ _ _ y (ix2 ⟨(y 0).val, h0⟩ ⟨(y 1).val % 1024, by omega⟩) rfl (fun a => by fin_cases a <;> simp; omega)).trans ?_
    unfold stepRows sampleRows sampleVal
    simp only [loadUp_eq, loadDown_eq, loadGain_eq, loadSteps_eq]
    refine congrArg (mlpRows (stepsOf x1) x2 (upChunk w) (downChunkOf u) x5) (funext fun a => Fin.ext ?_)
    fin_cases a
    · show b * 128 + (y 0).val = (y 1).val / 1024 * 128 + (y 0).val
      omega
    · show 0 + (y 1).val % 1024 = (y 1).val % 1024
      omega
  have miss : ∀ (b : ℕ) (hb : b ≤ 3) (p : Vec F S128x1024 .f32) (hy : (y 1).val / 1024 < b) (L : List (View.Piece (Elt F) S128x4096 .f32)),
      arg8.view.read (Elt F) (arg8.view.writes (Elt F) f (⟨Rect.unit ![0, b * 1024] S128x1024.size (inSample (b * 1024) (by omega)), p⟩ :: L)) y
        = arg8.view.read (Elt F) (arg8.view.writes (Elt F) f L) y := by
    intro b hb p hy L
    exact View.read_writes_cons_unit_of_not_mem _ _ _ _ _ y rfl 1 (.inl (by show (y 1).val < b * 1024; omega))
  by_cases e3 : (y 1).val / 1024 = 3
  · exact hit 3 (by omega) _ e3 _
  refine (miss 3 (by omega) _ (by omega) _).trans ?_
  by_cases e2 : (y 1).val / 1024 = 2
  · exact hit 2 (by omega) _ e2 _
  refine (miss 2 (by omega) _ (by omega) _).trans ?_
  by_cases e1 : (y 1).val / 1024 = 1
  · exact hit 1 (by omega) _ e1 _
  refine (miss 1 (by omega) _ (by omega) _).trans ?_
  exact hit 0 (by omega) _ (by omega) _

/-- The up weights' buffer after a point before point 8: its chunk is new, the others are as they were. -/
theorem up_reads (hc0 : k0_cond1 i = 1#1) (hc1 : ¬ k0_cond2 i = 1#1) (hc2 : ¬ k0_cond3 i = 1#1) (k : Fin 8) :
    upChunk (arg9.view.read (Elt F) (arg9.view.writes (Elt F) (harg9.unread w) (runCast c i arg1 harg1 arg2 harg2 arg3 harg3 arg4 harg4 arg5 harg5 arg6 harg6 arg7 harg7 arg8 harg8 arg9 harg9 arg10 harg10 hc0 hc1 hc2 x0 x1 x2 x3 x4 x5 d6 d7 w u).1)) k
      = if k.val = (i 0).val then k0_pay1 x3 else upChunk w k := by
  rw [runCast_up]
  funext y
  have h0 : (y 0).val < 1 := (y 0).isLt
  rw [loadUpWindow_eq]
  unfold upChunk View.ld
  split
  · rename_i h
    refine View.read_writes_cons_unit_of_mem arg9.view (harg9.unread w) (k0_off1_inb i hc0) (k0_pay1 x3) [] ((Rect.unit (s := S8x1024x512) ![k.val, 0, 0] S1x1024x512.size (inUp k)).idx y) y (k0_off1_eq i) (fun a => ?_)
    fin_cases a
    · show k.val + 1 * (y 0).val = (i 0).val + (y 0).val
      omega
    · show 0 + 1 * (y 1).val = 0 + (y 1).val
      omega
    · show 0 + 1 * (y 2).val = 0 + (y 2).val
      omega
  · rename_i h
    refine (View.read_writes_cons_unit_of_not_mem _ _ _ _ _ _ (k0_off1_eq i) 0 ?_).trans (by rw [View.writes_nil, harg9.read_unread])
    show k.val + 1 * (y 0).val < (i 0).val ∨ (i 0).val + 1 ≤ k.val + 1 * (y 0).val
    omega

/-- The down weights' buffer after a point before point 8: its chunk is new, the others are as they were. -/
theorem down_reads (hc0 : k0_cond1 i = 1#1) (hc1 : ¬ k0_cond2 i = 1#1) (hc2 : ¬ k0_cond3 i = 1#1) (k : Fin 8) :
    downChunkOf (arg10.view.read (Elt F) (arg10.view.writes (Elt F) (harg10.unread u) (runCast c i arg1 harg1 arg2 harg2 arg3 harg3 arg4 harg4 arg5 harg5 arg6 harg6 arg7 harg7 arg8 harg8 arg9 harg9 arg10 harg10 hc0 hc1 hc2 x0 x1 x2 x3 x4 x5 d6 d7 w u).2.1)) k
      = if k.val = (i 0).val then k0_pay2 x4 else downChunkOf u k := by
  rw [runCast_down]
  funext y
  have h0 : (y 0).val < 1 := (y 0).isLt
  rw [loadDownWindow_eq]
  unfold downChunkOf View.ld
  split
  · rename_i h
    refine View.read_writes_cons_unit_of_mem arg10.view (harg10.unread u) (k0_off2_inb i hc0) (k0_pay2 x4) [] ((Rect.unit (s := S8x512x1024) ![k.val, 0, 0] S1x512x1024.size (inDown k)).idx y) y (k0_off2_eq i) (fun a => ?_)
    fin_cases a
    · show k.val + 1 * (y 0).val = (i 0).val + (y 0).val
      omega
    · show 0 + 1 * (y 1).val = 0 + (y 1).val
      omega
    · show 0 + 1 * (y 2).val = 0 + (y 2).val
      omega
  · rename_i h
    refine (View.read_writes_cons_unit_of_not_mem _ _ _ _ _ _ (k0_off2_eq i) 0 ?_).trans (by rw [View.writes_nil, harg10.read_unread])
    show k.val + 1 * (y 0).val < (i 0).val ∨ (i 0).val + 1 ≤ k.val + 1 * (y 0).val
    omega

end

end Cert.Kernel2Ideal.Gen

end
-- ==== Proof.MlpFrame.lean ====
module

public import proofs.«01_k».proof.Proof.MlpPieces
public import Idealize.ShloMosaic.Lib.Pipeline.TableIdle
public import Idealize.ShloMosaic.Lib.Claim

@[expose] public section

set_option maxRecDepth 65536

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the pipeline's buffers hold -/

/-- The second `scf.if` runs at the points 8 to 23. -/
theorem cond2_iff : ∀ t : Fin cfg0.N, k0_cond2 (grid0.coords t) = 1#1 ↔ 8 ≤ t.val ∧ t.val < 24 :=
  (by decide +kernel : ∀ t : Fin grid0.N, k0_cond2 (grid0.coords t) = 1#1 ↔ 8 ≤ t.val ∧ t.val < 24)

/-- The third `scf.if` runs at the last point. -/
theorem cond3_iff : ∀ t : Fin cfg0.N, k0_cond3 (grid0.coords t) = 1#1 ↔ t.val = 24 :=
  (by decide +kernel : ∀ t : Fin grid0.N, k0_cond3 (grid0.coords t) = 1#1 ↔ t.val = 24)

/-- The grid has one axis: a point's coordinate is the point. -/
theorem coord_val : ∀ t : Fin cfg0.N, ((grid0.coords t) 0).val = t.val :=
  (by decide +kernel : ∀ t : Fin grid0.N, ((grid0.coords t) 0).val = t.val)

/-- Point `n`, no later than the last point of the prompt. -/
def tilePoint (n : ℕ) : Fin cfg0.N := ⟨min n 23, lt_of_le_of_lt (min_le_right n 23) (by rw [show cfg0.N = 25 from N_0]; omega)⟩

/-- Point `k` of the first eight. -/
def castPoint (k : Fin 8) : Fin cfg0.N := ⟨k.val, lt_of_lt_of_eq (by omega : k.val < 25) (show 25 = cfg0.N from N_0.symm)⟩

/-- The prompt rows of a point's block. -/
def promptIn (c : Dev nD) (t : Fin cfg0.N) : Vec F S1024x1024 .f32 := iblk m c 0 t

/-- The sample's rows. -/
def sampleIn (c : Dev nD) (t : Fin cfg0.N) : Vec F S128x4096 .f32 := iblk m c 1 t

/-- The first norm's gain. -/
def gainIn (c : Dev nD) (t : Fin cfg0.N) : Vec F S1x1024 .f32 := iblk m c 2 t

/-- The second norm's gain. -/
def gainOut (c : Dev nD) (t : Fin cfg0.N) : Vec F S1x1024 .f32 := iblk m c 5 t

/-- The up weights' chunks, as the first eight points put them away. -/
def upChunks (c : Dev nD) (k : Fin 8) : Vec F S1x1024x512 .bf16 := k0_pay1 (iblk m c 3 (castPoint k))

/-- The down weights' chunks, as the first eight points put them away. -/
def downChunks (c : Dev nD) (k : Fin 8) : Vec F S1x512x1024 .bf16 := k0_pay2 (iblk m c 4 (castPoint k))

/-- What a point of the prompt leaves in the prompt's output block; the last point leaves what point 23 left. -/
def promptOut (c : Dev nD) (n : ℕ) : Vec F S1024x1024 .f32 :=
  tileVal (promptIn m c (tilePoint n)) (gainIn m c (tilePoint n)) (upChunks m c) (downChunks m c) (gainOut m c (tilePoint n))

/-- What the last point leaves in the sample's output block. -/
def sampleOut (c : Dev nD) (t : Fin cfg0.N) : Vec F S128x4096 .f32 :=
  sampleVal (sampleIn m c t) (gainIn m c t) (upChunks m c) (downChunks m c) (gainOut m c t)

/-- Before point `n` the two scratch buffers hold the chunks of the points before it; the register is anything. -/
def PhiM (c : Dev nD) (n : ℕ) : sProp 𝕄 :=
  iprop((∃ w, ⌜∀ k : Fin 8, k.val < n → upChunk w k = upChunks m c k⌝ ∗ owns (c : Thread nD τ) (Memref.whole cc0_scratch0) fullShare w)
    ∗ (∃ u, ⌜∀ k : Fin 8, k.val < n → downChunkOf u k = downChunks m c k⌝ ∗ owns (c : Thread nD τ) (Memref.whole cc0_scratch1) fullShare u)
    ∗ (∃ r, prngReg c r))

/-- The proof data: inputs at their blocks, the outputs at `promptOut` and `sampleOut`, the scratch buffers by `PhiM`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => promptOut m c t.val
    | ⟨7, _⟩ => sampleOut m c t
  Φ t := PhiM m c t.val
  q _ := fullShare
  owed _ := 0

theorem A_eq (c : Dev nD) (w : Fin cfg0.W) : (dats m 0 c).A w = V m c (Pipeline.arrRef spec0 w) := by dsimp only [dats]

theorem Phi_castSucc (c : Dev nD) (t : Fin cfg0.N) : (dats m 0 c).Φ t.castSucc = PhiM m c t.val := by
  dsimp only [dats]; simp only [Fin.val_castSucc]

theorem Phi_succ (c : Dev nD) (t : Fin cfg0.N) : (dats m 0 c).Φ t.succ = PhiM m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = promptOut m c t.val := by dsimp only [dats]
theorem after0_7 (c : Dev nD) (t : Fin cfg0.N) : (dats m 0 c).after 7 t = sampleOut m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The prompt's output window idles off the prompt's points. -/
theorem idle6 : ∀ t : Fin cfg0.N, cfg0.idle 6 (cfg0.grid.coords t) = true ↔ ¬ (8 ≤ t.val ∧ t.val < 24) :=
  (by decide +kernel : ∀ t : Fin grid0.N, idle0 6 (grid0.coords t) = true ↔ ¬ (8 ≤ t.val ∧ t.val < 24))

/-- The sample's output window idles before the last point. -/
theorem idle7 : ∀ t : Fin cfg0.N, cfg0.idle 7 (cfg0.grid.coords t) = true ↔ t.val < 24 :=
  (by decide +kernel : ∀ t : Fin grid0.N, idle0 7 (grid0.coords t) = true ↔ t.val < 24)

/-- Nothing of the prompt's output is written back before point 8. -/
theorem flush6_early : ∀ t : Fin cfg0.N, t.val < 8 → (cfg0.win 6).flush t = false :=
  (by decide +kernel : ∀ t : Fin grid0.N, t.val < 8 → win0_6.flush t = false)

/-- The last point writes the prompt's last block back. -/
theorem flush6_last : ∀ t : Fin cfg0.N, t.val = 24 → (cfg0.win 6).flush t = true :=
  (by decide +kernel : ∀ t : Fin grid0.N, t.val = 24 → win0_6.flush t = true)

/-- The sample's output is not written back before the last point. -/
theorem flush7_early : ∀ t : Fin cfg0.N, t.val < 24 → (cfg0.win 7).flush t = false :=
  (by decide +kernel : ∀ t : Fin grid0.N, t.val < 24 → win0_7.flush t = false)

/-- Where the prompt's output window idles over contents stored earlier, the point is the last. -/
theorem carried6 : ∀ t : Fin cfg0.N, cfg0.idle 6 (cfg0.grid.coords t) = true → cfg0.fresh 6 t.val = false → t.val = 24 := by
  decide +kernel

theorem fresh6_last : cfg0.fresh 6 24 = false := by decide +kernel

/-- At the last point the prompt's output buffer still holds what point 23 stored. -/
theorem before6_last (c : Dev nD) (t : Fin cfg0.N) (ht : t.val = 24) (d) :
    (dats m 0 c).before 6 t d = (dats m 0 c).after 6 t := by
  have carry : ∀ (t : Fin cfg0.N) (h0 : t.val ≠ 0), cfg0.idle 6 (cfg0.grid.coords t) = true → cfg0.fresh 6 t.val = false →
      (dats m 0 c).after 6 t = (dats m 0 c).after 6 ⟨t.val - 1, by omega⟩ := by
    intro t h0 hi hf
    have e := carried6 t hi hf
    rw [after0_6, after0_6]
    exact congrArg (fun p => tileVal (promptIn m c p) (gainIn m c p) (upChunks m c) (downChunks m c) (gainOut m c p))
      (Fin.ext (show min t.val 23 = min (t.val - 1) 23 by omega))
  rw [Dat.before_out_traj (dats m 0 c) 6 rfl (fun _ _ => rfl) carry t.val t rfl d]
  rw [show cfg0.fresh 6 t.val = false from ht ▸ fresh6_last, after0_6, after0_6, if_neg (by decide)]
  exact congrArg (fun p => tileVal (promptIn m c p) (gainIn m c p) (upChunks m c) (downChunks m c) (gainOut m c p))
    (Fin.ext (show min (t.val - 1) 23 = min t.val 23 by omega))

/-! ## The body, at any point -/

/-- What the body leaves of an output window: what it found where it stored nothing and nothing is written back. -/
def leftOwns (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem leftOwns_live (c : Dev nD) (w : Fin cfg0.W) (t : Fin cfg0.N) (h : cfg0.idle w (cfg0.grid.coords t) = false) :
    leftOwns m c w t = owns (c : Thread nD τ) ((cfg0.win w).stage (cfg0.slots t w)) fullShare ((dats m 0 c).after w t) := by
  unfold leftOwns; rw [h]

theorem leftOwns_idle (c : Dev nD) (w : Fin cfg0.W) (t : Fin cfg0.N) (h : cfg0.idle w (cfg0.grid.coords t) = true)
    (hf : (cfg0.win w).flush t = false) :
    leftOwns m c w t = iprop(∃ d, owns (c : Thread nD τ) ((cfg0.win w).stage (cfg0.slots t w)) fullShare ((dats m 0 c).before w t d)) := by
  unfold leftOwns; rw [h, hf]

theorem leftOwns_back (c : Dev nD) (w : Fin cfg0.W) (t : Fin cfg0.N) (h : cfg0.idle w (cfg0.grid.coords t) = true)
    (hf : (cfg0.win w).flush t = true) :
    leftOwns m c w t = owns (c : Thread nD τ) ((cfg0.win w).stage (cfg0.slots t w)) fullShare ((dats m 0 c).after w t) := by
  unfold leftOwns; rw [h, hf]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ leftOwns m c 6 t ∗ leftOwns m c 7 t)

theorem upChunks_all (c : Dev nD) (w : Vec F S8x1024x512 .bf16) (n : ℕ) (hn : 8 ≤ n)
    (h : ∀ k : Fin 8, k.val < n → upChunk w k = upChunks m c k) : upChunk w = upChunks m c :=
  funext fun k => h k (by omega)

theorem downChunks_all (c : Dev nD) (u : Vec F S8x512x1024 .bf16) (n : ℕ) (hn : 8 ≤ n)
    (h : ∀ k : Fin 8, k.val < n → downChunkOf u k = downChunks m c k) : downChunkOf u = downChunks m c :=
  funext fun k => h k (by omega)

set_option maxHeartbeats 1200000 in
/-- The body at any point: a cast, a tile of the prompt, or the sample. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [after0_0, after0_1, after0_2, after0_3, after0_4, after0_5, Phi_castSucc m c t, Phi_succ m c t]
  rw [show (dats m 0 c).owesAt () t.succ = (dats m 0 c).owesAt () t.castSucc from rfl]
  unfold PhiM
  have hN : t.val < 25 := lt_of_lt_of_eq t.isLt (show cfg0.N = 25 from N_0)
  by_cases h8 : t.val < 8
  · have hc0 := (cond1_iff t).mpr h8
    have hc1 : ¬ k0_cond2 (grid0.coords t) = 1#1 := fun h => absurd ((cond2_iff t).mp h) (by omega)
    have hc2 : ¬ k0_cond3 (grid0.coords t) = 1#1 := fun h => absurd ((cond3_iff t).mp h) (by omega)
    rw [leftOwns_idle m c 6 t ((idle6 t).mpr (by omega)) (flush6_early t h8), leftOwns_idle m c 7 t ((idle7 t).mpr (by omega)) (flush7_early t (by omega))]
    iintro ⟨⟨⟨%w, %hw, Hw⟩, ⟨%u, %hu, Hu⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runCast c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) _ _ w u).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hw]; · iexact Hw
    isplitl [Hu]; · iexact Hu
    iintro ⟨H0, H1, H2, H3, H4, H5, H6, H7, Hw, Hu⟩
    isplitl [Hg Hw Hu]
    · isplitl [Hw]
      · iexists _; isplitr
        swap
        · unfold owns; iexists _; isplitr
          swap; · iexact Hw
          ipureintro; rfl
        ipureintro
        intro k hk
        rw [up_reads, coord_val t]
        split
        · rename_i e
          unfold upChunks
          exact congrArg (fun p => k0_pay1 (iblk m c 3 p)) (Fin.ext e.symm)
        · exact hw k (by omega)
      isplitl [Hu]
      · iexists _; isplitr
        swap
        · unfold owns; iexists _; isplitr
          swap; · iexact Hu
          ipureintro; rfl
        ipureintro
        intro k hk
        rw [down_reads, coord_val t]
        split
        · rename_i e
          unfold downChunks
          exact congrArg (fun p => k0_pay2 (iblk m c 4 p)) (Fin.ext e.symm)
        · exact hu k (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  by_cases h24 : t.val < 24
  · have hc0 : ¬ k0_cond1 (grid0.coords t) = 1#1 := fun h => absurd ((cond1_iff t).mp h) (by omega)
    have hc1 := (cond2_iff t).mpr ⟨by omega, h24⟩
    have hc2 : ¬ k0_cond3 (grid0.coords t) = 1#1 := fun h => absurd ((cond3_iff t).mp h) (by omega)
    have hi : cfg0.idle 6 (cfg0.grid.coords t) = false := Bool.eq_false_iff.mpr fun h => (idle6 t).mp h ⟨by omega, h24⟩
    rw [leftOwns_live m c 6 t hi, leftOwns_idle m c 7 t ((idle7 t).mpr h24) (flush7_early t h24), after0_6]
    iintro ⟨⟨⟨%w, %hw, Hw⟩, ⟨%u, %hu, Hu⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runTile c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) _ _ w u).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hw]; · iexact Hw
    isplitl [Hu]; · iexact Hu
    iintro ⟨H0, H1, H2, H3, H4, H5, ⟨%f6, H6⟩, H7, Hw, Hu⟩
    isplitl [Hg Hw Hu]
    · isplitl [Hw]
      · iexists w; isplitr
        swap; · iexact Hw
        ipureintro; exact fun k _ => hw k (by omega)
      isplitl [Hu]
      · iexists u; isplitr
        swap; · iexact Hu
        ipureintro; exact fun k _ => hu k (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro
      have e : tilePoint t.val = t := Fin.ext (show min t.val 23 = t.val by omega)
      refine (tile_reads _ _ _ _ _ _ _ _ _ _ _ _ _ _ _ _ _ _ _ _ _ _ _ _ _ _ _ _ _ _ _ _ hc0 hc1 hc2 f6).trans ?_
      rw [upChunks_all m c w t.val (by omega) hw, downChunks_all m c u t.val (by omega) hu]
      unfold promptOut; rw [e]; rfl
    iexists _; iexact H7
  · have e24 : t.val = 24 := by omega
    have hc0 : ¬ k0_cond1 (grid0.coords t) = 1#1 := fun h => absurd ((cond1_iff t).mp h) (by omega)
    have hc1 : ¬ k0_cond2 (grid0.coords t) = 1#1 := fun h => absurd ((cond2_iff t).mp h) (by omega)
    have hc2 := (cond3_iff t).mpr e24
    have hi : cfg0.idle 7 (cfg0.grid.coords t) = false := Bool.eq_false_iff.mpr fun h => absurd ((idle7 t).mp h) h24
    rw [leftOwns_back m c 6 t ((idle6 t).mpr (by omega)) (flush6_last t e24), leftOwns_live m c 7 t hi, after0_7]
    simp only [before6_last m c t e24]
    iintro ⟨⟨⟨%w, %hw, Hw⟩, ⟨%u, %hu, Hu⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runSample c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) _ _ w u).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hw]; · iexact Hw
    isplitl [Hu]; · iexact Hu
    iintro ⟨H0, H1, H2, H3, H4, H5, H6, ⟨%f7, H7⟩, Hw, Hu⟩
    isplitl [Hg Hw Hu]
    · isplitl [Hw]
      · iexists w; isplitr
        swap; · iexact Hw
        ipureintro; exact fun k _ => hw k (by omega)
      isplitl [Hu]
      · iexists u; isplitr
        swap; · iexact Hu
        ipureintro; exact fun k _ => hu k (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro
    refine (sample_reads _ _ _ _ _ _ _ _ _ _ _ _ _ _ _ _ _ _ _ _ _ _ _ _ _ _ _ _ _ _ _ _ hc0 hc1 hc2 f7).trans ?_
    rw [upChunks_all m c w t.val (by omega) hw, downChunks_all m c u t.val (by omega) hu]
    rfl

theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- What a launch hands the region: the two scratch buffers and the register, at anything. -/
theorem scratch_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- Before the first point the scratch buffers hold anything. -/
theorem hin (c : Dev nD) : (Pipeline.ΦA spec0 c : sProp 𝕄) ⊢ (dats m 0 c).Φ 0 := by
  rw [scratch_eq, show (dats m 0 c).Φ 0 = PhiM m c 0 from rfl]
  unfold PhiM
  iintro ⟨⟨⟨%w, Hw⟩, ⟨%u, Hu⟩⟩, Hg⟩
  isplitl [Hw]
  · iexists w; isplitr
    swap; · iexact Hw
    ipureintro; exact fun k hk => absurd hk (Nat.not_lt_zero _)
  isplitl [Hu]
  · iexists u; isplitr
    swap; · iexact Hu
    ipureintro; exact fun k hk => absurd hk (Nat.not_lt_zero _)
  iexact Hg

/-- After the last point they are handed back. -/
theorem hout (c : Dev nD) : (dats m 0 c).Φ (Fin.last cfg0.N) ⊢ (Pipeline.ΦA spec0 c : sProp 𝕄) := by
  rw [scratch_eq, show (dats m 0 c).Φ (Fin.last cfg0.N) = PhiM m c cfg0.N from rfl]
  unfold PhiM
  iintro ⟨⟨%w, -, Hw⟩, ⟨%u, -, Hu⟩, Hg⟩
  isplitl [Hw Hu]
  · isplitl [Hw]; · iexists w; iexact Hw
    iexists u; iexact Hu
  iexact Hg

set_option backward.isDefEq.respectTransparency.types false in
/-- Every run ends with the pipeline's arrays at what the proof data says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel2Ideal.Gen

end
-- ==== Proof.MlpTransfer.lean ====
module

public import proofs.«01_k».proof.Proof.MlpFrame
public import proofs.«01_k».proof.Proof.Gen.Kernel2
public import proofs.«01_k».proof.Defs
public import Idealize.ShloMosaic.Lib.Tactic

@[expose] public section

set_option maxRecDepth 65536

noncomputable section

namespace Cert.Proof.Mlp

open Idealize.ShloMosaic Idealize.ShloMosaic.Tactic Idealize.SL.Sem

/-- The printed program and the idealized one are the same program over the two number systems. -/
theorem same_program : Cert.quiescent_Kernel2 =
    (∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)) := by
  sl_kernel_rfl

/-- So the frame shown for any number system is the printed program's too. -/
theorem quiescent_printed : Cert.quiescent_Kernel2 :=
  same_program.mpr fun m ρ _ => Cert.Kernel2Ideal.Gen.frame (F := Bits) m ρ

end Cert.Proof.Mlp

end
-- ==== Proof.MlpValue.lean ====
module

public import proofs.«01_k».proof.Proof.MlpFrame
public import Idealize.ShloMosaic.Lib.Pointwise
public import Idealize.ShloMosaic.Lib.Pipeline.ValueKit.Geometry

@[expose] public section

set_option maxRecDepth 65536

noncomputable section

namespace Cert.Kernel2Ideal.Gen

open Idealize.ShloMosaic Idealize.ShloMosaic.TcCoe Idealize.ShloMosaic.Tactic

/-! ## The MLP block of one row, in exact arithmetic -/

/-- One over a row's root mean square. -/
def rowScale (x : Fin 1024 → EReal) : EReal :=
  Ideal.rsqrt (Ideal.div (∑ k, x k * x k) (Ideal.ofBits .f32 1149239296#32) + Ideal.ofBits .f32 897988541#32)

/-- A hidden unit: the squared positive part of the normalised row times a column of the up weights. -/
def hiddenAt (x g : Fin 1024 → EReal) (W : Fin 1024 → Fin 4096 → EReal) (j : Fin 4096) : EReal :=
  max (∑ k, x k * rowScale x * g k * W k j) 0 * max (∑ k, x k * rowScale x * g k * W k j) 0

/-- The down projection of the hidden units. -/
def downAt (x g : Fin 1024 → EReal) (W : Fin 1024 → Fin 4096 → EReal) (U : Fin 4096 → Fin 1024 → EReal) (c : Fin 1024) : EReal :=
  ∑ j, hiddenAt x g W j * U j c

/-- The row plus its normalised MLP. -/
def mlpAt (x g : Fin 1024 → EReal) (W : Fin 1024 → Fin 4096 → EReal) (U : Fin 4096 → Fin 1024 → EReal) (g2 : Fin 1024 → EReal)
    (c : Fin 1024) : EReal :=
  x c + downAt x g W U c * rowScale (downAt x g W U) * g2 c

theorem rmsRows_apply (x : FVec Ideal S512x1024 .f32) (r : Fin 512) (k : Fin 1024) :
    rmsRows x (ix2 r k) = x (ix2 r k) * rowScale fun a => x (ix2 r a) := by
  unfold rmsRows rowScale
  pointwise

theorem normRows_apply (x : FVec Ideal S512x1024 .f32) (g : Vec Ideal S1x1024 .f32) (r : Fin 512) (k : Fin 1024) :
    normRows x g (ix2 r k) = x (ix2 r k) * (rowScale fun a => x (ix2 r a)) * g (ix2 0 k) := by
  rw [← rmsRows_apply]
  unfold normRows
  pointwise

theorem hiddenChunk_apply (h : FVec Ideal S512x1024 .bf16) (w : Vec Ideal S1x1024x512 .bf16) (r k : Fin 512) :
    hiddenChunk h w (ix2 r k) = max (∑ a, h (ix2 r a) * w (ix3 0 a k)) 0 * max (∑ a, h (ix2 r a) * w (ix3 0 a k)) 0 := by
  unfold hiddenChunk
  pointwise

theorem downChunk_apply (h : FVec Ideal S512x1024 .bf16) (w : Vec Ideal S1x1024x512 .bf16) (u : Vec Ideal S1x512x1024 .bf16)
    (r : Fin 512) (k : Fin 1024) :
    downChunk h w u (ix2 r k) = ∑ j, hiddenChunk h w (ix2 r j) * u (ix3 0 j k) := by
  unfold downChunk
  pointwise

/-- Place `j` of chunk `k` among the 4096 hidden units. -/
def unitOf (k : Fin 8) (j : Fin 512) : Fin 4096 := ⟨k.val * 512 + j.val, by omega⟩

/-- A sum over the hidden units, chunk by chunk. -/
theorem sum_units (f : Fin 4096 → EReal) : ∑ i, f i = ∑ k : Fin 8, ∑ j : Fin 512, f (unitOf k j) := by
  rw [← (finProdFinEquiv (m := 8) (n := 512)).sum_comp, Fintype.sum_prod_type]
  refine Finset.sum_congr rfl fun k _ => Finset.sum_congr rfl fun j _ => congrArg f (Fin.ext ?_)
  show j.val + 512 * k.val = k.val * 512 + j.val
  omega

section
variable (x : FVec Ideal S512x1024 .f32) (g : Vec Ideal S1x1024 .f32) (w : Fin 8 → Vec Ideal S1x1024x512 .bf16)
  (u : Fin 8 → Vec Ideal S1x512x1024 .bf16) (g2 : Vec Ideal S1x1024 .f32)
  (W : Fin 1024 → Fin 4096 → EReal) (U : Fin 4096 → Fin 1024 → EReal)
  (hw : ∀ k a j, w k (ix3 0 a j) = W a (unitOf k j)) (hu : ∀ k j b, u k (ix3 0 j b) = U (unitOf k j) b)
  (X G G2 : Fin 1024 → EReal) (r : Fin 512) (hx : ∀ a, x (ix2 r a) = X a) (hg : ∀ a, g (ix2 0 a) = G a) (hg2 : ∀ a, g2 (ix2 0 a) = G2 a)
include hw hu hx hg

/-- The eight chunks' parts are the whole down projection. -/
theorem downRows_apply (b : Fin 1024) : downRows (normRows x g) w u (ix2 r b) = downAt X G W U b := by
  have e : downRows (normRows x g) w u (ix2 r b) = ∑ k : Fin 8, downChunk (normRows x g) (w k) (u k) (ix2 r b) := by
    rw [Fin.sum_univ_eight]
    unfold downRows
    pointwise
  rw [e]
  unfold downAt
  rw [sum_units]
  refine Finset.sum_congr rfl fun k _ => ?_
  rw [downChunk_apply]
  refine Finset.sum_congr rfl fun j _ => ?_
  rw [hiddenChunk_apply, hu]
  unfold hiddenAt
  simp only [normRows_apply, hw, hx, hg]

include hg2 in
/-- Row `r` of the 512. -/
theorem mlpRows_apply (b : Fin 1024) : mlpRows x g w u g2 (ix2 r b) = mlpAt X G W U G2 b := by
  have e : mlpRows x g w u g2 (ix2 r b) = x (ix2 r b) + rmsRows (downRows (normRows x g) w u) (ix2 r b) * g2 (ix2 0 b) := by
    unfold mlpRows
    generalize rmsRows (downRows (normRows x g) w u) = d
    pointwise
  rw [e, rmsRows_apply]
  simp only [downRows_apply x g w u W U hw hu X G r hx hg, hx, hg2]
  rfl

end

/-- Row `128 t + n` of the stacked steps is step `t` of row `n`. -/
theorem stepsOf_apply (x1 : Vec Ideal S128x4096 .f32) (t : Fin 4) (n : Fin 128) (k : Fin 1024) :
    stepsOf x1 (ix2 ⟨t.val * 128 + n.val, by omega⟩ k) = x1 (ix2 n ⟨t.val * 1024 + k.val, by omega⟩) := by
  unfold stepsOf stackSteps stepOf
  pointwise
  fin_cases t
  · rw [dif_pos (by show 0 * 128 + n.val < 128; omega)]
    exact congrArg x1 (congrArg₂ ix2 (Fin.ext (by show 0 * 128 + n.val = n.val; omega)) (Fin.ext (by show k.val = 0 * 1024 + k.val; omega)))
  · rw [dif_neg (by show ¬ 1 * 128 + n.val < 128; omega), dif_pos (by show 1 * 128 + n.val - 128 < 128; omega)]
    exact congrArg x1 (congrArg₂ ix2 (Fin.ext (by show 1 * 128 + n.val - 128 = n.val; omega)) (Fin.ext (by show 1024 + k.val = 1 * 1024 + k.val; omega)))
  · rw [dif_neg (by show ¬ 2 * 128 + n.val < 128; omega), dif_neg (by show ¬ 2 * 128 + n.val - 128 < 128; omega),
      dif_pos (by show 2 * 128 + n.val - 128 - 128 < 128; omega)]
    exact congrArg x1 (congrArg₂ ix2 (Fin.ext (by show 2 * 128 + n.val - 128 - 128 = n.val; omega)) (Fin.ext (by show 2048 + k.val = 2 * 1024 + k.val; omega)))
  · rw [dif_neg (by show ¬ 3 * 128 + n.val < 128; omega), dif_neg (by show ¬ 3 * 128 + n.val - 128 < 128; omega),
      dif_neg (by show ¬ 3 * 128 + n.val - 128 - 128 < 128; omega)]
    exact congrArg x1 (congrArg₂ ix2 (Fin.ext (by show 3 * 128 + n.val - 128 - 128 - 128 = n.val; omega)) (Fin.ext (by show 3072 + k.val = 3 * 1024 + k.val; omega)))

/-! ## The windows' blocks -/

variable (m : (ℓ : Loc nD τ sig) → Buf (Elt Ideal) ℓ)

theorem index_0 : ∀ t : Fin cfg0.N, win0_0.index t = ![min 15 (t.val - 8), 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, min 7 t.val] := (by decide +kernel : ∀ t : Fin grid0.N, _)
theorem index_4 : ∀ t : Fin cfg0.N, win0_4.index t = ![min 7 t.val, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![min 15 (t.val - 8), 0] := (by decide +kernel : ∀ t : Fin grid0.N, _)
theorem index_7 : ∀ t : Fin cfg0.N, win0_7.index t = ![0, 0] := (by decide +kernel : ∀ t : Fin grid0.N, _)

theorem promptIn_apply (c : Dev nD) (t : Fin cfg0.N) (y : S1024x1024.Idx) (z : S16384x1024.Idx)
    (h0 : (z 0).val = min 15 (t.val - 8) * 1024 + (y 0).val) (h1 : (z 1).val = (y 1).val) :
    promptIn m c t y = (m (c.tc.loc main_arg0) : Vec Ideal S16384x1024 .f32) z := by
  unfold promptIn
  blk_simp [iblk]
  rw [V_main_arg0]
  refine congrArg _ (funext fun a => Fin.ext ?_)
  fin_cases a
  · blk_simp [index_0]
    exact h0.symm
  · blk_simp [index_0]
    exact h1.symm

theorem sampleIn_apply (c : Dev nD) (t : Fin cfg0.N) (y : S128x4096.Idx) :
    sampleIn m c t y = (m (c.tc.loc main_arg1) : Vec Ideal S128x4096 .f32) y := by
  unfold sampleIn
  blk_simp [iblk]
  rw [V_main_arg1]
  refine congrArg _ (funext fun a => Fin.ext ?_)
  fin_cases a <;> blk_simp [index_1]

theorem gainIn_apply (c : Dev nD) (t : Fin cfg0.N) (y : S1x1024.Idx) :
    gainIn m c t y = (m (c.tc.loc main_arg2) : Vec Ideal S1x1024 .f32) y := by
  unfold gainIn
  blk_simp [iblk]
  rw [V_main_arg2]
  refine congrArg _ (funext fun a => Fin.ext ?_)
  fin_cases a <;> blk_simp [index_2]

theorem gainOut_apply (c : Dev nD) (t : Fin cfg0.N) (y : S1x1024.Idx) :
    gainOut m c t y = (m (c.tc.loc main_arg5) : Vec Ideal S1x1024 .f32) y := by
  unfold gainOut
  blk_simp [iblk]
  rw [V_main_arg5]
  refine congrArg _ (funext fun a => Fin.ext ?_)
  fin_cases a <;> blk_simp [index_5]

/-- A chunk of the up weights is 512 of their columns. -/
theorem upChunks_apply (c : Dev nD) (k : Fin 8) (a : Fin 1024) (j : Fin 512) :
    upChunks m c k (ix3 0 a j) = (m (c.tc.loc main_arg3) : Vec Ideal S1024x4096 .f32) (ix2 a (unitOf k j)) := by
  unfold upChunks
  have e : ∀ x1 : Vec Ideal S1024x512 .f32, k0_pay1 x1 (ix3 0 a j) = x1 (ix2 a j) := by
    intro x1; unfold k0_pay1; pointwise
  rw [e]
  blk_simp [iblk]
  rw [V_main_arg3]
  refine congrArg _ (funext fun b => Fin.ext ?_)
  fin_cases b
  · blk_simp [index_3]
    rfl
  · blk_simp [index_3]
    show min 7 k.val * 512 + j.val = k.val * 512 + j.val
    omega

/-- A chunk of the down weights is 512 of their rows. -/
theorem downChunks_apply (c : Dev nD) (k : Fin 8) (j : Fin 512) (b : Fin 1024) :
    downChunks m c k (ix3 0 j b) = (m (c.tc.loc main_arg4) : Vec Ideal S4096x1024 .f32) (ix2 (unitOf k j) b) := by
  unfold downChunks
  have e : ∀ x1 : Vec Ideal S512x1024 .f32, k0_pay2 x1 (ix3 0 j b) = x1 (ix2 j b) := by
    intro x1; unfold k0_pay2; pointwise
  rw [e]
  blk_simp [iblk]
  rw [V_main_arg4]
  refine congrArg _ (funext fun b => Fin.ext ?_)
  fin_cases b
  · blk_simp [index_4]
    show min 7 k.val * 512 + j.val = k.val * 512 + j.val
    omega
  · blk_simp [index_4]
    rfl

/-! ## The result arrays -/

/-- The prompt's MLP, as an array. -/
def promptArr (xp : Vec Ideal S16384x1024 .f32) (g : Vec Ideal S1x1024 .f32) (W : Vec Ideal S1024x4096 .f32)
    (U : Vec Ideal S4096x1024 .f32) (g2 : Vec Ideal S1x1024 .f32) : Vec Ideal S16384x1024 .f32 := fun z =>
  mlpAt (fun a => xp (ix2 (z 0) a)) (fun a => g (ix2 0 a)) (fun a j => W (ix2 a j)) (fun j b => U (ix2 j b)) (fun a => g2 (ix2 0 a)) (z 1)

/-- The sample's MLP, as an array: step `t` of row `n` lies in columns `1024 t` and on. -/
def sampleArr (xs : Vec Ideal S128x4096 .f32) (g : Vec Ideal S1x1024 .f32) (W : Vec Ideal S1024x4096 .f32)
    (U : Vec Ideal S4096x1024 .f32) (g2 : Vec Ideal S1x1024 .f32) : Vec Ideal S128x4096 .f32 := fun z =>
  mlpAt (fun a => xs (ix2 (z 0) ⟨(z 1).val / 1024 * 1024 + a.val, by have h : (z 1).val < 4096 := (z 1).isLt; omega⟩))
    (fun a => g (ix2 0 a)) (fun a j => W (ix2 a j)) (fun j b => U (ix2 j b)) (fun a => g2 (ix2 0 a)) ⟨(z 1).val % 1024, by omega⟩

/-- Half of a prompt tile's rows, read at an index of the tile. -/
theorem halfTile_apply (x : Vec Ideal S1024x1024 .f32) (s : ℕ) (hs : s ≤ 512) (r : Fin 512) (a : Fin 1024) :
    halfTile x s hs (ix2 r a) = x (ix2 ⟨s + r.val, by omega⟩ a) := by
  unfold halfTile
  pointwise

/-- What a point of the prompt leaves, read at an index. -/
theorem promptOut_apply (c : Dev nD) (t : Fin cfg0.N) (y : S1024x1024.Idx) (z : S16384x1024.Idx)
    (h0 : (z 0).val = min 15 (t.val - 8) * 1024 + (y 0).val) (h1 : (z 1).val = (y 1).val) :
    promptOut m c t.val y = promptArr (m (c.tc.loc main_arg0)) (m (c.tc.loc main_arg2)) (m (c.tc.loc main_arg3))
      (m (c.tc.loc main_arg4)) (m (c.tc.loc main_arg5)) z := by
  have key : ∀ (s : ℕ) (hs : s ≤ 512) (r : Fin 512), (y 0).val = s + r.val →
      mlpRows (halfTile (promptIn m c (tilePoint t.val)) s hs) (gainIn m c (tilePoint t.val)) (upChunks m c) (downChunks m c)
        (gainOut m c (tilePoint t.val)) (ix2 r (y 1))
      = promptArr (m (c.tc.loc main_arg0)) (m (c.tc.loc main_arg2)) (m (c.tc.loc main_arg3))
        (m (c.tc.loc main_arg4)) (m (c.tc.loc main_arg5)) z := by
    intro s hs r hr
    refine (mlpRows_apply _ _ _ _ _
      (fun a j => (m (c.tc.loc main_arg3) : Vec Ideal S1024x4096 .f32) (ix2 a j))
      (fun j b => (m (c.tc.loc main_arg4) : Vec Ideal S4096x1024 .f32) (ix2 j b))
      (upChunks_apply m c) (downChunks_apply m c)
      (fun a => (m (c.tc.loc main_arg0) : Vec Ideal S16384x1024 .f32) (ix2 (z 0) a)) _ _ r (fun a => ?_)
      (fun a => gainIn_apply m c _ _) (fun a => gainOut_apply m c _ _) (y 1)).trans ?_
    · rw [halfTile_apply]
      refine promptIn_apply m c _ _ _ ?_ rfl
      show (z 0).val = min 15 (min t.val 23 - 8) * 1024 + (s + r.val)
      rw [h0, hr]
      omega
    · have e1 : y 1 = z 1 := Fin.ext h1.symm
      rw [e1]
      rfl
  unfold promptOut tileVal
  split
  · exact key 0 _ _ (by simp)
  · exact key 512 _ _ (by simp only; omega)

/-- The prompt's array after the run. -/
theorem final6 (c : Dev nD) : (dats m 0 c).arrAt 6 cfg0.N
    = promptArr (m (c.tc.loc main_arg0)) (m (c.tc.loc main_arg2)) (m (c.tc.loc main_arg3))
      (m (c.tc.loc main_arg4)) (m (c.tc.loc main_arg5)) := by
  refine (dats m 0 c).arrAt_eq_of_covers 6 _ (by decide +kernel) fun t hf y => ?_
  blk_simp
  rw [after0_6]
  refine promptOut_apply m c t _ _ ?_ ?_
  · blk_simp [index_6]
  · blk_simp [index_6]

/-- What the last point leaves in the sample's block, read at an index. -/
theorem sampleOut_apply (c : Dev nD) (t : Fin cfg0.N) (y : S128x4096.Idx) :
    sampleOut m c t y = sampleArr (m (c.tc.loc main_arg1)) (m (c.tc.loc main_arg2)) (m (c.tc.loc main_arg3))
      (m (c.tc.loc main_arg4)) (m (c.tc.loc main_arg5)) y := by
  have hy1 : (y 1).val < 4096 := (y 1).isLt
  unfold sampleOut sampleVal
  refine (mlpRows_apply _ _ _ _ _
    (fun a j => (m (c.tc.loc main_arg3) : Vec Ideal S1024x4096 .f32) (ix2 a j))
    (fun j b => (m (c.tc.loc main_arg4) : Vec Ideal S4096x1024 .f32) (ix2 j b))
    (upChunks_apply m c) (downChunks_apply m c)
    (fun a => (m (c.tc.loc main_arg1) : Vec Ideal S128x4096 .f32) (ix2 (y 0) ⟨(y 1).val / 1024 * 1024 + a.val, by omega⟩)) _ _ _ (fun a => ?_)
    (fun a => gainIn_apply m c _ _) (fun a => gainOut_apply m c _ _) _).trans rfl
  exact (stepsOf_apply _ ⟨(y 1).val / 1024, by omega⟩ (y 0) a).trans (sampleIn_apply m c t _)

/-- The sample's array after the run. -/
theorem final7 (c : Dev nD) : (dats m 0 c).arrAt 7 cfg0.N
    = sampleArr (m (c.tc.loc main_arg1)) (m (c.tc.loc main_arg2)) (m (c.tc.loc main_arg3))
      (m (c.tc.loc main_arg4)) (m (c.tc.loc main_arg5)) := by
  refine (dats m 0 c).arrAt_eq_of_covers 7 _ (by decide +kernel) fun t hf y => ?_
  blk_simp
  rw [after0_7, sampleOut_apply]
  refine congrArg _ (funext fun a => Fin.ext ?_)
  fin_cases a <;> blk_simp [index_7]

end Cert.Kernel2Ideal.Gen

end
-- ==== Proof.MlpClaim.lean ====
module

public import proofs.«01_k».proof.Defs
public import proofs.«01_k».proof.Proof.MlpValue
public import proofs.«01_k».proof.Proof.Gen.Reference2Ideal.Read

@[expose] public section

set_option maxRecDepth 65536

noncomputable section

namespace Cert.Proof.Mlp

open Idealize.ShloMosaic Idealize.ShloMosaic.TcCoe Idealize.ShloMosaic.Tactic Idealize.SL.Sem
open Cert.Kernel2Ideal (S16384x1024 S128x4096 S1x1024 S1024x4096 S4096x1024 S512x1024)
open Cert.Kernel2Ideal.Gen (rowScale hiddenAt downAt mlpAt promptArr sampleArr final6 final7)
open Cert.Reference2Ideal.Read

/-! ## The MLP against its reference -/

/-- The reference's one over a row's root mean square. -/
theorem host_scale (x : Fin 1024 → EReal) :
    (FloatOps.hostUnary (F := Ideal) (φ := .f32) .rsqrt (FloatOps.addf (F := Ideal) (φ := .f32)
      (FloatOps.hostDivf (F := Ideal) (φ := .f32)
        ((FloatOps.ofBits (F := Ideal) .f32 0x00000000#32 : EReal) + ∑ k, FloatOps.mulf (F := Ideal) (φ := .f32) (x k) (x k))
        (FloatOps.ofBits .f32 0x44800000#32)) (FloatOps.ofBits .f32 0x358637BD#32)) : EReal) = rowScale x := by
  have z : (FloatOps.ofBits (F := Ideal) .f32 0x00000000#32 : EReal) = 0 := Ideal.ofBits_zero_f32
  rw [z, zero_add]
  rfl

/-- A two-dimensional index, from its two places. -/
theorem at_ix2 {a b : ℕ} (z : (⟨2, ![a, b]⟩ : Shape).Idx) (r : Fin a) (k : Fin b) (h0 : (z 0).val = r.val) (h1 : (z 1).val = k.val) :
    z = ix2 r k := by
  funext i
  fin_cases i
  · exact Fin.ext h0
  · exact Fin.ext h1

section
variable (xp : Vec Ideal S16384x1024 .f32) (xs : Vec Ideal S128x4096 .f32) (g : Vec Ideal S1x1024 .f32) (W : Vec Ideal S1024x4096 .f32)
  (U : Vec Ideal S4096x1024 .f32) (g2 : Vec Ideal S1x1024 .f32)

/-- A prompt row under the first norm, as the reference computes it. -/
theorem prompt_norm (r : Fin 16384) (k : Fin 1024) : val_main_v11 (F := Ideal) xp g (ix2 r k)
    = (xp (ix2 r k) * (rowScale fun a => xp (ix2 r a)) * g (ix2 0 k) : EReal) := by
  simp only [val_main_v11_apply, val_main_v10_apply, val_main_v9_apply, val_main_v8_apply, val_main_v7_apply, val_main_v6_apply,
    val_main_v5_apply, val_main_v4_apply, val_main_v3_apply, val_main_v2_apply, val_main_v1_apply, val_main_v0_apply,
    val_main_cst_apply, val_main_cst_0_apply, val_main_cst_1_apply]
  have e : ∀ a, idx_main_v1 (idx_main_v2 (idx_main_v8 (ix2 r k))) a = ix2 r a := fun a => at_ix2 _ _ _ rfl rfl
  have e' : idx_main_v10 (ix2 r k) = ix2 0 k := at_ix2 _ _ _ rfl rfl
  simp only [e, e']
  rw [host_scale fun a => xp (ix2 r a)]
  rfl

/-- A prompt row's hidden unit, as the reference computes it. -/
theorem prompt_hidden (r : Fin 16384) (j : Fin 4096) : val_main_v14 (F := Ideal) xp g W (ix2 r j)
    = hiddenAt (fun a => xp (ix2 r a)) (fun a => g (ix2 0 a)) (fun a j => W (ix2 a j)) j := by
  have e : val_main_v12 (F := Ideal) xp g W (ix2 r j)
      = (∑ a, xp (ix2 r a) * (rowScale fun a => xp (ix2 r a)) * g (ix2 0 a) * W (ix2 a j) : EReal) := by
    rw [val_main_v12_apply]
    refine Finset.sum_congr rfl fun a _ => ?_
    rw [← prompt_norm xp g r a]
    exact congrArg₂ (fun x y : EReal => x * y) (congrArg _ (at_ix2 _ _ _ rfl rfl)) (congrArg _ (at_ix2 _ _ _ rfl rfl))
  simp only [val_main_v14_apply, val_main_v13_apply, val_main_call0_v0_apply, val_main_call0_cst_apply, e]
  have z : (FloatOps.ofBits (F := Ideal) .f32 0x00000000#32 : EReal) = 0 := Ideal.ofBits_zero_f32
  rw [z]
  rfl

/-- A prompt row's down projection, as the reference computes it. -/
theorem prompt_down (r : Fin 16384) (b : Fin 1024) : val_main_v15 (F := Ideal) xp g W U (ix2 r b)
    = downAt (fun a => xp (ix2 r a)) (fun a => g (ix2 0 a)) (fun a j => W (ix2 a j)) (fun j b => U (ix2 j b)) b := by
  rw [val_main_v15_apply]
  unfold downAt
  refine Finset.sum_congr rfl fun j _ => ?_
  rw [← prompt_hidden xp g W r j]
  exact congrArg₂ (fun x y : EReal => x * y) (congrArg _ (at_ix2 _ _ _ rfl rfl)) (congrArg _ (at_ix2 _ _ _ rfl rfl))

/-- The reference's prompt result is the kernel's. -/
theorem ref_prompt : val_main_v28 (F := Ideal) xp g W U g2 = promptArr xp g W U g2 := by
  funext z
  obtain ⟨r, b, rfl⟩ : ∃ (r : Fin 16384) (b : Fin 1024), z = ix2 r b := ⟨_, _, eq_ix2 z⟩
  simp only [val_main_v28_apply, val_main_v27_apply, val_main_v26_apply, val_main_v25_apply, val_main_v24_apply, val_main_v23_apply,
    val_main_v22_apply, val_main_v21_apply, val_main_v20_apply, val_main_v19_apply, val_main_v18_apply, val_main_v17_apply,
    val_main_v16_apply, val_main_cst_2_apply, val_main_cst_3_apply, val_main_cst_4_apply]
  have e : ∀ a, idx_main_v17 (idx_main_v18 (idx_main_v24 (ix2 r b))) a = ix2 r a := fun a => at_ix2 _ _ _ rfl rfl
  have e' : idx_main_v26 (ix2 r b) = ix2 0 b := at_ix2 _ _ _ rfl rfl
  simp only [e, e', prompt_down]
  rw [host_scale (downAt _ _ _ _)]
  rfl

/-- A sample row's element, after the reference's reshape: row `4 n + t` is step `t` of row `n`. -/
theorem sample_row (n : Fin 128) (t : Fin 4) (k : Fin 1024) : val_main_v29 (F := Ideal) xs (ix2 ⟨n.val * 4 + t.val, by omega⟩ k)
    = xs (ix2 n ⟨t.val * 1024 + k.val, by omega⟩) := by
  rw [val_main_v29_apply]
  refine congrArg xs (at_ix2 _ _ _ ?_ ?_)
  · show ((n.val * 4 + t.val) * 1024 + k.val) / 4096 = n.val; omega
  · show ((n.val * 4 + t.val) * 1024 + k.val) % 4096 = t.val * 1024 + k.val; omega

/-- A sample row under the first norm, as the reference computes it. -/
theorem sample_norm (r : Fin 512) (k : Fin 1024) : val_main_v41 (F := Ideal) xs g (ix2 r k)
    = (val_main_v29 (F := Ideal) xs (ix2 r k) * (rowScale fun a => val_main_v29 (F := Ideal) xs (ix2 r a)) * g (ix2 0 k) : EReal) := by
  simp only [val_main_v41_apply, val_main_v40_apply, val_main_v39_apply, val_main_v38_apply, val_main_v37_apply, val_main_v36_apply,
    val_main_v35_apply, val_main_v34_apply, val_main_v33_apply, val_main_v32_apply, val_main_v31_apply, val_main_v30_apply,
    val_main_cst_5_apply, val_main_cst_6_apply, val_main_cst_7_apply]
  have e : ∀ a, idx_main_v31 (idx_main_v32 (idx_main_v38 (ix2 r k))) a = ix2 r a := fun a => at_ix2 _ _ _ rfl rfl
  have e' : idx_main_v40 (ix2 r k) = ix2 0 k := at_ix2 _ _ _ rfl rfl
  simp only [e, e']
  rw [host_scale fun a => val_main_v29 (F := Ideal) xs (ix2 r a)]
  rfl

/-- A sample row's hidden unit, as the reference computes it. -/
theorem sample_hidden (r : Fin 512) (j : Fin 4096) : val_main_v44 (F := Ideal) xs g W (ix2 r j)
    = hiddenAt (fun a => val_main_v29 (F := Ideal) xs (ix2 r a)) (fun a => g (ix2 0 a)) (fun a j => W (ix2 a j)) j := by
  have e : val_main_v42 (F := Ideal) xs g W (ix2 r j)
      = (∑ a, val_main_v29 (F := Ideal) xs (ix2 r a) * (rowScale fun a => val_main_v29 (F := Ideal) xs (ix2 r a)) * g (ix2 0 a)
          * W (ix2 a j) : EReal) := by
    rw [val_main_v42_apply]
    refine Finset.sum_congr rfl fun a _ => ?_
    rw [← sample_norm xs g r a]
    exact congrArg₂ (fun x y : EReal => x * y) (congrArg _ (at_ix2 _ _ _ rfl rfl)) (congrArg _ (at_ix2 _ _ _ rfl rfl))
  simp only [val_main_v44_apply, val_main_v43_apply, val_main_call1_v0_apply, val_main_call1_cst_apply, e]
  have z : (FloatOps.ofBits (F := Ideal) .f32 0x00000000#32 : EReal) = 0 := Ideal.ofBits_zero_f32
  rw [z]
  rfl

/-- A sample row's down projection, as the reference computes it. -/
theorem sample_down (r : Fin 512) (b : Fin 1024) : val_main_v45 (F := Ideal) xs g W U (ix2 r b)
    = downAt (fun a => val_main_v29 (F := Ideal) xs (ix2 r a)) (fun a => g (ix2 0 a)) (fun a j => W (ix2 a j)) (fun j b => U (ix2 j b)) b := by
  rw [val_main_v45_apply]
  unfold downAt
  refine Finset.sum_congr rfl fun j _ => ?_
  rw [← sample_hidden xs g W r j]
  exact congrArg₂ (fun x y : EReal => x * y) (congrArg _ (at_ix2 _ _ _ rfl rfl)) (congrArg _ (at_ix2 _ _ _ rfl rfl))

/-- A sample row's result, before the reference's last reshape. -/
theorem sample_result (r : Fin 512) (b : Fin 1024) : val_main_v58 (F := Ideal) xs g W U g2 (ix2 r b)
    = mlpAt (fun a => val_main_v29 (F := Ideal) xs (ix2 r a)) (fun a => g (ix2 0 a)) (fun a j => W (ix2 a j)) (fun j b => U (ix2 j b))
        (fun a => g2 (ix2 0 a)) b := by
  simp only [val_main_v58_apply, val_main_v57_apply, val_main_v56_apply, val_main_v55_apply, val_main_v54_apply, val_main_v53_apply,
    val_main_v52_apply, val_main_v51_apply, val_main_v50_apply, val_main_v49_apply, val_main_v48_apply, val_main_v47_apply,
    val_main_v46_apply, val_main_cst_8_apply, val_main_cst_9_apply, val_main_cst_10_apply]
  have e : ∀ a, idx_main_v47 (idx_main_v48 (idx_main_v54 (ix2 r b))) a = ix2 r a := fun a => at_ix2 _ _ _ rfl rfl
  have e' : idx_main_v56 (ix2 r b) = ix2 0 b := at_ix2 _ _ _ rfl rfl
  simp only [e, e', sample_down]
  rw [host_scale (downAt _ _ _ _)]
  rfl

/-- The reference's sample result is the kernel's. -/
theorem ref_sample : val_main_v59 (F := Ideal) xs g W U g2 = sampleArr xs g W U g2 := by
  funext z
  obtain ⟨n, q, rfl⟩ : ∃ (n : Fin 128) (q : Fin 4096), z = ix2 n q := ⟨_, _, eq_ix2 z⟩
  have e : idx_main_v59 (ix2 n q) = ix2 (⟨n.val * 4 + q.val / 1024, by omega⟩ : Fin 512) (⟨q.val % 1024, by omega⟩ : Fin 1024) := by
    refine at_ix2 _ _ _ ?_ ?_
    · show (n.val * 4096 + q.val) / 1024 = n.val * 4 + q.val / 1024; omega
    · show (n.val * 4096 + q.val) % 1024 = q.val % 1024; omega
  rw [val_main_v59_apply, e, sample_result]
  have e2 : (fun a => val_main_v29 (F := Ideal) xs (ix2 (⟨n.val * 4 + q.val / 1024, by omega⟩ : Fin 512) a))
      = fun a : Fin 1024 => xs (ix2 n ⟨q.val / 1024 * 1024 + a.val, by omega⟩) :=
    funext fun a => sample_row xs n ⟨q.val / 1024, by omega⟩ a
  rw [e2]
  rfl

end

/-- The MLP's result arrays are its reference's, in exact arithmetic. -/
theorem algebraic_mlp : Cert.algebraic_Kernel2Ideal_Reference2Ideal := by
  intro m g m' g' hpre hargs
  refine ⟨fun c => promptArr (m (c.tc.loc Cert.Kernel2Ideal.main_arg0)) (m (c.tc.loc Cert.Kernel2Ideal.main_arg2)) (m (c.tc.loc Cert.Kernel2Ideal.main_arg3))
      (m (c.tc.loc Cert.Kernel2Ideal.main_arg4)) (m (c.tc.loc Cert.Kernel2Ideal.main_arg5)),
    fun c => sampleArr (m (c.tc.loc Cert.Kernel2Ideal.main_arg1)) (m (c.tc.loc Cert.Kernel2Ideal.main_arg2)) (m (c.tc.loc Cert.Kernel2Ideal.main_arg3))
      (m (c.tc.loc Cert.Kernel2Ideal.main_arg4)) (m (c.tc.loc Cert.Kernel2Ideal.main_arg5)), ?_, ?_⟩
  · refine (θ_run _ _ _).mono (fun r h c => ?_) (θ_run_and (Cert.Kernel2Ideal.Gen.run_main m g) (Cert.Kernel2Ideal.Gen.frame m g))
    exact ⟨((h.1 c).1 6).trans (final6 m c), ((h.1 c).1 7).trans (final7 m c), h.2.1 c⟩
  · refine (θ_run _ _ _).mono (fun r h c => ?_) (Cert.Reference2Ideal.Value.run m' g')
    obtain ⟨h0, h1, h2, h3, h4, h5⟩ := hargs c
    refine ⟨(h c).1.trans ?_, (h c).2.1.trans ?_, (h c).2.2⟩
    · rw [val_main_v28_eq, ref_prompt, h0, h2, h3, h4, h5]
    · rw [val_main_v59_eq, ref_sample, h1, h2, h3, h4, h5]

/-- The MLP's reference ends with its arguments as they were; it has no semaphore. -/
theorem quiescent_reference2 : Cert.quiescent_Reference2Ideal := fun m ρ _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)

end Cert.Proof.Mlp

end
-- ==== Proof.MixerMath.lean ====
module

public import Idealize.ShloMosaic.Lib.Pointwise
public import Idealize.ShloMosaic.Lib.IdealHost
public import proofs.«01_k».proof.Proof.MlpValue

@[expose] public section

noncomputable section

namespace Cert.Proof.Mixer

open Idealize.ShloMosaic Idealize.ShloMosaic.Tactic
open Cert.Kernel2Ideal.Gen (rowScale)

/-! ## The gated recurrence in exact arithmetic

A forget factor between the bound and one is a positive real number whatever the projection is, so its logarithm is
real and every exponential below is a finite positive number: the laws of real arithmetic apply around the values. -/

/-- The pattern of one half. -/
theorem ofBits_half : Ideal.ofBits .f32 0x3F000000#32 = ((1 / 2 : ℝ) : EReal) := by
  simp [Ideal.ofBits, Ideal.ieee, -EReal.coe_mul]; norm_num

/-- The hyperbolic tangent is half of a logistic function. -/
theorem tanh_logistic (x : ℝ) : 1 / (1 + Real.exp (-x)) = (1 + Real.tanh (1 / 2 * x)) / 2 := by
  have h1 : Real.exp (-x) = Real.exp (-(1 / 2 * x)) * Real.exp (-(1 / 2 * x)) := by rw [← Real.exp_add]; ring_nf
  have h2 : Real.exp (1 / 2 * x) * Real.exp (-(1 / 2 * x)) = 1 := by rw [← Real.exp_add]; simp
  have p1 := Real.exp_pos (1 / 2 * x)
  have p2 := Real.exp_pos (-(1 / 2 * x))
  rw [Real.tanh_eq_sinh_div_cosh, Real.sinh_eq, Real.cosh_eq, h1]
  generalize Real.exp (1 / 2 * x) = a at *
  generalize Real.exp (-(1 / 2 * x)) = b at *
  field_simp
  linear_combination (-2) * b * h2

/-- The forget factor as a real number: the bound plus what a logistic gate lets through of the rest. -/
def forget (l : ℝ) (x : EReal) : ℝ := l + (1 - l) * (Ideal.logistic x).toReal

/-- A logistic value is a real number between zero and one. -/
theorem logistic_real (x : EReal) : ∃ r : ℝ, Ideal.logistic x = r ∧ 0 ≤ r ∧ r ≤ 1 ∧ Ideal.tanh (((1 / 2 : ℝ) : EReal) * x) = ((2 * r - 1 : ℝ) : EReal) := by
  induction x with
  | bot =>
    refine ⟨0, ?_, le_rfl, zero_le_one, ?_⟩
    · simp [Ideal.logistic, Ideal.div, EReal.add_top_of_ne_bot (show (1 : EReal) ≠ ⊥ by decide)]
    · rw [EReal.coe_mul_bot_of_pos (by norm_num)]; norm_num
  | top =>
    refine ⟨1, ?_, zero_le_one, le_rfl, ?_⟩
    · simp [Ideal.logistic, Ideal.div]
    · rw [EReal.coe_mul_top_of_pos (by norm_num)]; norm_num
  | coe x =>
    have hp := Real.exp_pos (-x)
    refine ⟨1 / (1 + Real.exp (-x)), ?_, by positivity, by rw [div_le_one (by positivity)]; linarith, ?_⟩
    · unfold Ideal.logistic
      rw [← EReal.coe_neg, Ideal.exp_coe, ← EReal.coe_one, ← EReal.coe_add, Ideal.div_coe (by positivity), ← EReal.coe_mul, one_mul]
    · rw [← EReal.coe_mul, Ideal.tanh_coe, tanh_logistic]
      ring_nf

theorem forget_pos {l : ℝ} (h0 : 0 < l) (h1 : l < 1) (x : EReal) : 0 < forget l x := by
  obtain ⟨r, hr, hr0, -⟩ := logistic_real x
  unfold forget
  rw [hr, EReal.toReal_coe]
  have : 0 ≤ (1 - l) * r := mul_nonneg (by linarith) hr0
  linarith

/-- The reference's forget factor. -/
theorem forget_ref (l : ℝ) (x : EReal) :
    (l : EReal) + (1 - (l : EReal)) * Ideal.logistic x = ((forget l x : ℝ) : EReal) := by
  obtain ⟨r, hr, -⟩ := logistic_real x
  unfold forget
  rw [hr, EReal.toReal_coe]
  norm_cast

/-- The kernel's forget factor, written with a hyperbolic tangent. -/
theorem forget_kernel (l : ℝ) (x : EReal) :
    ((1 / 2 : ℝ) : EReal) * (1 + (l : EReal)) + ((1 / 2 : ℝ) : EReal) * (1 - (l : EReal)) * Ideal.tanh (((1 / 2 : ℝ) : EReal) * x)
      = ((forget l x : ℝ) : EReal) := by
  obtain ⟨r, hr, -, -, ht⟩ := logistic_real x
  unfold forget
  rw [hr, ht, EReal.toReal_coe, ← EReal.coe_one, ← EReal.coe_add, ← EReal.coe_sub, ← EReal.coe_mul, ← EReal.coe_mul, ← EReal.coe_mul,
    ← EReal.coe_add]
  congr 1
  ring

/-- The logarithm of a positive real number. -/
theorem log_pos {r : ℝ} (h : 0 < r) : Ideal.log (r : EReal) = ((Real.log r : ℝ) : EReal) := by
  rw [Ideal.log_coe, if_neg (not_le.mpr h)]

/-- A finite sum of real numbers. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum times a nonnegative real number. -/
theorem sum_mul_real {ι : Type*} (s : Finset ι) (f : ι → EReal) {e : ℝ} (he : 0 ≤ e) :
    (∑ i ∈ s, f i) * (e : EReal) = ∑ i ∈ s, f i * (e : EReal) := by
  classical
  induction s using Finset.induction_on with
  | empty => simp
  | insert a s ha ih =>
    rw [Finset.sum_insert ha, Finset.sum_insert ha, EReal.right_distrib_of_nonneg_of_ne_top (by exact_mod_cast he) (EReal.coe_ne_top e), ih]

/-- The logarithms of the first `n` forget factors, added. -/
def decay (lf : ℕ → ℝ) (n : ℕ) : ℝ := ∑ s ∈ Finset.range n, lf s

/-- The state after `n` steps: each step's value times its key, decayed over the steps since. -/
def stateAfter (v : ℕ → EReal) (lf k : ℕ → ℝ) (n : ℕ) : EReal :=
  ∑ s ∈ Finset.range n, v s * ((k s * Real.exp (decay lf n - decay lf (s + 1)) : ℝ) : EReal)

theorem stateAfter_zero (v : ℕ → EReal) (lf k : ℕ → ℝ) : stateAfter v lf k 0 = 0 := by simp [stateAfter]

/-- `c` further steps decay the state as a whole and add their own outer products. -/
theorem stateAfter_add (v : ℕ → EReal) (lf k : ℕ → ℝ) (n c : ℕ) :
    stateAfter v lf k (n + c) = stateAfter v lf k n * ((Real.exp (decay lf (n + c) - decay lf n) : ℝ) : EReal)
      + ∑ i ∈ Finset.range c, v (n + i) * ((k (n + i) * Real.exp (decay lf (n + c) - decay lf (n + i + 1)) : ℝ) : EReal) := by
  unfold stateAfter
  rw [Finset.sum_range_add, sum_mul_real _ _ (Real.exp_pos _).le]
  refine congrArg₂ (· + ·) (Finset.sum_congr rfl fun s _ => ?_) rfl
  rw [mul_assoc, ← EReal.coe_mul, mul_assoc, ← Real.exp_add]
  congr 3
  ring_nf

/-! ## The prompt's steps -/

/-- A row of the input projection: the normalised row under the gain times a column of the weights, plus the bias. -/
def projAt (x g w : Fin 1024 → EReal) (b : EReal) : EReal := (∑ a, x a * rowScale x * g a * w a) + b

section
variable (x : Vec Ideal ⟨3, ![8, 2048, 1024]⟩ .f32) (g : Vec Ideal ⟨2, ![1, 1024]⟩ .f32) (W : Vec Ideal ⟨2, ![1024, 6656]⟩ .f32)
  (bias : Vec Ideal ⟨2, ![1, 6656]⟩ .f32) (lb : Vec Ideal ⟨2, ![1, 1024]⟩ .f32)

/-- Column `c` of the input projection of step `s` of sequence `b`. -/
def stepAt (b : Fin 8) (c : Fin 6656) (s : ℕ) : EReal :=
  if h : s < 2048 then projAt (fun a => x (ix3 b ⟨s, h⟩ a)) (fun a => g (ix2 0 a)) (fun a => W (ix2 a c)) (bias (ix2 0 c)) else 0

/-- The forget factor of step `s` of sequence `b` in channel `c`. -/
def forgetAt (b : Fin 8) (c : Fin 1024) (s : ℕ) : ℝ :=
  forget (lb (ix2 0 c)).toReal (stepAt x g W bias b ⟨1536 + c.val, by omega⟩ s)

/-- The value of step `s` of sequence `b` in channel `c`. -/
def valueAt (b : Fin 8) (c : Fin 1024) (s : ℕ) : EReal := stepAt x g W bias b ⟨2560 + c.val, by omega⟩ s

/-- Head `h`'s state after `n` steps of sequence `b`, at key channel `k` and value channel `v`. -/
def hgAfter (b h : Fin 8) (k v : Fin 128) (n : ℕ) : EReal :=
  stateAfter (valueAt x g W bias b ⟨h.val * 128 + v.val, by omega⟩)
    (fun s => Real.log (forgetAt x g W bias lb b ⟨h.val * 128 + k.val, by omega⟩ s))
    (fun s => 1 - forgetAt x g W bias lb b ⟨h.val * 128 + k.val, by omega⟩ s) n

end

end Cert.Proof.Mixer

end
-- ==== Proof.MixerRef.lean ====
module

public import proofs.«01_k».proof.Proof.MixerMath
public import proofs.«01_k».proof.Proof.MlpClaim
public import proofs.«01_k».proof.Proof.Gen.Reference3Ideal.Read

@[expose] public section

set_option maxRecDepth 65536

noncomputable section

namespace Cert.Proof.Mixer

open Idealize.ShloMosaic Idealize.ShloMosaic.TcCoe Idealize.ShloMosaic.Tactic
open Cert.Reference3Ideal (S8x2048x1024 S1x1024 S1024x6656 S1x6656 S8x2048x8x128 S8x8x128x128 S_)
open Cert.Kernel2Ideal.Gen (rowScale)
open Cert.Reference3Ideal.Read

/-! ## The running sum of the reference -/

/-- A fold that adds is the start plus the sum. -/
theorem foldl_add {ι : Type*} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- Of the window over `N` places that ends at place `s`, those before the first place add nothing. -/
theorem sum_window (N s : ℕ) (hs : s < N) (f : ℕ → EReal) :
    ∑ n ∈ Finset.range N, (if N - 1 ≤ s + n then f (s + n - (N - 1)) else 0) = ∑ j ∈ Finset.range (s + 1), f j := by
  obtain ⟨d, rfl⟩ : ∃ d, N = d + (s + 1) := ⟨N - (s + 1), by omega⟩
  rw [Finset.sum_range_add, Finset.sum_eq_zero, zero_add]
  · refine Finset.sum_congr rfl fun j hj => ?_
    rw [if_pos (by omega)]
    congr 1
    omega
  · intro n hn
    rw [Finset.mem_range] at hn
    rw [if_neg (by omega)]

theorem numel_window : (⟨4, ![1, 2048, 1, 1]⟩ : Shape).numel = 2048 := by decide +kernel

/-- Place `n` of the window is step `n`, the other coordinates being zero. -/
theorem window_place (n : Fin (⟨4, ![1, 2048, 1, 1]⟩ : Shape).numel) :
    (⟨4, ![1, 2048, 1, 1]⟩ : Shape).rowMajor.symm n = ix4 (0 : Fin 1) (⟨n.val, n.isLt.trans_eq numel_window⟩ : Fin 2048) (0 : Fin 1) (0 : Fin 1) := by
  rw [Equiv.symm_apply_eq]
  refine Fin.ext ?_
  rw [Shape.rowMajor_val_four]
  show n.val = ((0 * 2048 + n.val) * 1 + 0) * 1 + 0
  omega

/-- The running sum along the second axis of an array that holds real numbers. -/
theorem cumsum_apply (x : FVec Ideal S8x2048x8x128 .f32) (init : FVec Ideal S_ .f32) (hinit : ∀ i, init i = (0 : EReal))
    (hw : S8x2048x8x128.ReduceWindows (![1, 2048, 1, 1] : Fin 4 → ℕ) ![1, 1, 1, 1] ![0, 2047, 0, 0] ![0, 0, 0, 0] S8x2048x8x128) (hu : 0 < S_.numel)
    (b : Fin 8) (s : Fin 2048) (h : Fin 8) (k : Fin 128) (lf : ℕ → ℝ) (hx : ∀ j : Fin 2048, x (ix4 b j h k) = ((lf j.val : ℝ) : EReal)) :
    Host.reduceWindowAdd ![1, 2048, 1, 1] ![1, 1, 1, 1] ![0, 2047, 0, 0] ![0, 0, 0, 0] x init hw hu (ix4 b s h k)
      = ((decay lf (s.val + 1) : ℝ) : EReal) := by
  unfold Host.reduceWindowAdd
  rw [Ideal.hostReduceWindowAdd_def, hinit]
  unfold Ideal.hostReduceWindowAdd Host.reduceWindow
  dsimp only
  rw [foldl_add, zero_add]
  refine (congrArg List.sum (List.map_congr_left
    (g := fun n => (fun n : ℕ => if 2048 - 1 ≤ s.val + n then ((lf (s.val + n - (2048 - 1)) : ℝ) : EReal) else 0) n.val) fun n _ => ?_)).trans ?_
  · show _ = if 2048 - 1 ≤ s.val + n.val then ((lf (s.val + n.val - (2048 - 1)) : ℝ) : EReal) else 0
    have hn : n.val < 2048 := n.isLt.trans_eq numel_window
    simp only [window_place n]
    by_cases hc : 2047 ≤ s.val + n.val
    · rw [dif_pos, if_pos hc]
      · rw [← hx ⟨s.val + n.val - 2047, by omega⟩]
        refine congrArg x (funext fun a => Fin.ext ?_)
        fin_cases a
        · show b.val * 1 + 0 - 0 = b.val; omega
        · show s.val * 1 + n.val - 2047 = s.val + n.val - 2047; omega
        · show h.val * 1 + 0 - 0 = h.val; omega
        · show k.val * 1 + 0 - 0 = k.val; omega
      · intro a
        fin_cases a
        · show 0 ≤ b.val * 1 + 0 ∧ b.val * 1 + 0 - 0 < 8; omega
        · show 2047 ≤ s.val * 1 + n.val ∧ s.val * 1 + n.val - 2047 < 2048; omega
        · show 0 ≤ h.val * 1 + 0 ∧ h.val * 1 + 0 - 0 < 8; omega
        · show 0 ≤ k.val * 1 + 0 ∧ k.val * 1 + 0 - 0 < 128; omega
    · rw [dif_neg, if_neg hc]
      intro hin
      have h1 := (hin 1).1
      change 2047 ≤ s.val * 1 + n.val at h1
      omega
  rw [← Fin.sum_univ_def, Fin.sum_univ_eq_sum_range (fun n : ℕ => if 2048 - 1 ≤ s.val + n then ((lf (s.val + n - (2048 - 1)) : ℝ) : EReal) else 0), numel_window,
    sum_window 2048 s.val s.isLt fun j => ((lf j : ℝ) : EReal)]
  exact (coe_sum _ _).symm

section
variable (x : Vec Ideal S8x2048x1024 .f32) (g : Vec Ideal S1x1024 .f32) (W : Vec Ideal S1024x6656 .f32)
  (bias : Vec Ideal S1x6656 .f32) (lb : Vec Ideal S1x1024 .f32)

/-- A three-dimensional index, from its three places. -/
theorem at_ix3 {a b c : ℕ} (z : (⟨3, ![a, b, c]⟩ : Shape).Idx) (i : Fin a) (j : Fin b) (k : Fin c) (h0 : (z 0).val = i.val) (h1 : (z 1).val = j.val)
    (h2 : (z 2).val = k.val) : z = ix3 i j k := by
  funext q
  fin_cases q
  · exact Fin.ext h0
  · exact Fin.ext h1
  · exact Fin.ext h2

/-- A four-dimensional index, from its four places. -/
theorem at_ix4 {a b c d : ℕ} (z : (⟨4, ![a, b, c, d]⟩ : Shape).Idx) (i : Fin a) (j : Fin b) (k : Fin c) (l : Fin d) (h0 : (z 0).val = i.val)
    (h1 : (z 1).val = j.val) (h2 : (z 2).val = k.val) (h3 : (z 3).val = l.val) : z = ix4 i j k l := by
  funext q
  fin_cases q
  · exact Fin.ext h0
  · exact Fin.ext h1
  · exact Fin.ext h2
  · exact Fin.ext h3

/-- A channel of a head. -/
theorem channel_of {b h : Fin 8} {s : Fin 2048} {k : Fin 128} : ∀ z : (⟨3, ![8, 2048, 1024]⟩ : Shape).Idx,
    (z 0).val = (((b.val * 2048 + s.val) * 8 + h.val) * 128 + k.val) / 2097152 →
    (z 1).val = (((b.val * 2048 + s.val) * 8 + h.val) * 128 + k.val) / 1024 % 2048 →
    (z 2).val = (((b.val * 2048 + s.val) * 8 + h.val) * 128 + k.val) % 1024 →
    z = ix3 b s (⟨h.val * 128 + k.val, by omega⟩ : Fin 1024) := fun z h0 h1 h2 =>
  at_ix3 _ _ _ _ (by rw [h0]; omega) (by rw [h1]; omega) (by rw [h2]; show _ = h.val * 128 + k.val; omega)

/-- A step's row under the norm, as the reference computes it. -/
theorem ref_norm (b : Fin 8) (s : Fin 2048) (k : Fin 1024) : val_main_v12 (F := Ideal) x g (ix3 b s k)
    = (x (ix3 b s k) * (rowScale fun a => x (ix3 b s a)) * g (ix2 0 k) : EReal) := by
  simp only [val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_v0_apply,
    val_main_cst_apply, val_main_cst_0_apply, val_main_cst_1_apply]
  have e : ∀ a, idx_main_v1 (idx_main_v2 (idx_main_v8 (ix3 b s k))) a = ix3 b s a := fun a => at_ix3 _ _ _ _ rfl rfl rfl
  have e' : idx_main_v10 (idx_main_v11 (ix3 b s k)) = ix2 0 k := Mlp.at_ix2 _ _ _ rfl rfl
  simp only [e, e']
  rw [Mlp.host_scale fun a => x (ix3 b s a)]
  rfl

/-- A step's projection, as the reference computes it. -/
theorem ref_proj (b : Fin 8) (s : Fin 2048) (c : Fin 6656) : val_main_v16 (F := Ideal) x g W bias (ix3 b s c) = stepAt x g W bias b c s.val := by
  unfold stepAt projAt
  rw [dif_pos s.isLt, val_main_v16_apply, val_main_v13_apply, val_main_v15_apply, val_main_v14_apply]
  refine congrArg₂ (fun x y : EReal => x + y) (Finset.sum_congr rfl fun a _ => ?_) (congrArg bias (Mlp.at_ix2 _ _ _ rfl rfl))
  rw [← ref_norm x g b s a]
  exact congrArg₂ (fun x y : EReal => x * y) (congrArg _ (at_ix3 _ _ _ _ rfl rfl rfl)) (congrArg _ (Mlp.at_ix2 _ _ _ rfl rfl))

section
variable (hlb : ∀ c : Fin 1024, ∃ l : ℝ, lb (ix2 0 c) = (l : EReal) ∧ 0 < l ∧ l < 1)
include hlb

/-- The forget factor, as the reference computes it. -/
theorem ref_forget (b : Fin 8) (s : Fin 2048) (c : Fin 1024) :
    val_main_v32 (F := Ideal) x g W bias lb (ix3 b s c) = ((forgetAt x g W bias lb b c s.val : ℝ) : EReal) := by
  obtain ⟨l, hl, h0, h1⟩ := hlb c
  simp only [val_main_v32_apply, val_main_v31_apply, val_main_v30_apply, val_main_v29_apply, val_main_v28_apply, val_main_v27_apply, val_main_v26_apply,
    val_main_v25_apply, val_main_v24_apply, val_main_v23_apply, val_main_v22_apply, val_main_v21_apply, val_main_v20_apply, val_main_v19_apply,
    val_main_v17_apply, val_main_cst_2_apply, val_main_cst_3_apply, val_main_cst_4_apply]
  have e1 : idx_main_v30 (idx_main_v31 (ix3 b s c)) = ix2 0 c := Mlp.at_ix2 _ _ _ rfl rfl
  have e2 : idx_main_v27 (idx_main_v28 (ix3 b s c)) = ix2 0 c := Mlp.at_ix2 _ _ _ rfl rfl
  have e3 : idx_main_v17 (ix3 b s c) = ix3 b s (⟨1536 + c.val, by omega⟩ : Fin 6656) := at_ix3 _ _ _ _ rfl rfl rfl
  have one : (FloatOps.ofBits (F := Ideal) .f32 0x3F800000#32 : EReal) = 1 := Ideal.ofBits_one_f32
  rw [e1, e2, e3, ref_proj, one]
  unfold forgetAt
  rw [hl, EReal.toReal_coe, ← forget_ref]
  rfl

/-- The running sum of the logarithms, as the reference computes it. -/
theorem ref_decay (b : Fin 8) (s : Fin 2048) (h : Fin 8) (k : Fin 128) :
    val_main_v39 (F := Ideal) x g W bias lb (ix4 b s h k)
      = ((decay (fun s => Real.log (forgetAt x g W bias lb b ⟨h.val * 128 + k.val, by omega⟩ s)) (s.val + 1) : ℝ) : EReal) := by
  unfold val_main_v39
  refine cumsum_apply _ _ (fun i => ?_) _ _ b s h k _ fun j => ?_
  · rw [val_main_call0_call0_v0_apply]
    exact Ideal.ofBits_zero_f32
  · obtain ⟨l, hl, h0, h1⟩ := hlb ⟨h.val * 128 + k.val, by omega⟩
    have e : idx_main_v34 (ix4 b j h k) = ix3 b j (⟨h.val * 128 + k.val, by omega⟩ : Fin 1024) := channel_of _ rfl rfl rfl
    rw [val_main_v34_apply, e, val_main_v33_apply, ref_forget x g W bias lb hlb]
    refine log_pos ?_
    unfold forgetAt
    rw [hl, EReal.toReal_coe]
    exact forget_pos h0 h1 _

/-- A step's value, as the reference computes it. -/
theorem ref_value (b : Fin 8) (s : Fin 2048) (h : Fin 8) (v : Fin 128) :
    val_main_v38 (F := Ideal) x g W bias (ix4 b s h v) = valueAt x g W bias b ⟨h.val * 128 + v.val, by omega⟩ s.val := by
  have e : idx_main_v38 (ix4 b s h v) = ix3 b s (⟨h.val * 128 + v.val, by omega⟩ : Fin 1024) := channel_of _ rfl rfl rfl
  have e' : idx_main_v18 (ix3 b s (⟨h.val * 128 + v.val, by omega⟩ : Fin 1024)) = ix3 b s (⟨2560 + (h.val * 128 + v.val), by omega⟩ : Fin 6656) :=
    at_ix3 _ _ _ _ rfl rfl rfl
  rw [val_main_v38_apply, val_main_v18_apply, e, e', ref_proj]
  rfl

/-- A step's decayed key, as the reference computes it. -/
theorem ref_key (b : Fin 8) (s : Fin 2048) (h : Fin 8) (k : Fin 128) :
    val_main_v46 (F := Ideal) x g W bias lb (ix4 b s h k)
      = (((1 - forgetAt x g W bias lb b ⟨h.val * 128 + k.val, by omega⟩ s.val) * Real.exp
        (decay (fun s => Real.log (forgetAt x g W bias lb b ⟨h.val * 128 + k.val, by omega⟩ s)) 2048
          - decay (fun s => Real.log (forgetAt x g W bias lb b ⟨h.val * 128 + k.val, by omega⟩ s)) (s.val + 1)) : ℝ) : EReal) := by
  have e : idx_main_v37 (ix4 b s h k) = ix3 b s (⟨h.val * 128 + k.val, by omega⟩ : Fin 1024) := channel_of _ rfl rfl rfl
  have e1 : idx_main_v40 (idx_main_v41 (idx_main_v42 (idx_main_v43 (ix4 b s h k)))) = ix4 b (⟨2047, by omega⟩ : Fin 2048) h k := by
    refine at_ix4 _ _ _ _ _ ?_ rfl ?_ ?_
    · show ((b.val * 8 + h.val) * 128 + k.val) / 1024 = b.val; omega
    · show ((b.val * 8 + h.val) * 128 + k.val) / 128 % 8 = h.val; omega
    · show ((b.val * 8 + h.val) * 128 + k.val) % 128 = k.val; omega
  have one : (FloatOps.ofBits (F := Ideal) .f32 0x3F800000#32 : EReal) = ((1 : ℝ) : EReal) := Ideal.ofBits_one_f32
  rw [val_main_v46_apply, val_main_v45_apply, val_main_v44_apply, val_main_v43_apply, val_main_v42_apply, val_main_v41_apply, val_main_v40_apply,
    val_main_v37_apply, val_main_v36_apply, val_main_v35_apply, val_main_cst_5_apply, e, e1, ref_decay x g W bias lb hlb,
    ref_decay x g W bias lb hlb, ref_forget x g W bias lb hlb, one]
  generalize forgetAt x g W bias lb b ⟨h.val * 128 + k.val, by omega⟩ s.val = f
  generalize decay _ (s.val + 1) = B
  show (((1 : ℝ) : EReal) - (f : EReal)) * Ideal.exp (((decay _ 2048 : ℝ) : EReal) - (B : EReal)) = _
  rw [← EReal.coe_sub, ← EReal.coe_sub, Ideal.exp_coe, ← EReal.coe_mul]

/-- The reference's state is the recurrence after all 2048 steps. -/
theorem ref_state (b h : Fin 8) (k v : Fin 128) :
    val_main_v47 (F := Ideal) x g W bias lb (ix4 b h k v) = hgAfter x g W bias lb b h k v 2048 := by
  have e : ∀ s : Fin 2048, val_main_v46 (F := Ideal) x g W bias lb (lidx_main_v47 (ix4 b h k v) s) * val_main_v38 (F := Ideal) x g W bias (ridx_main_v47 (ix4 b h k v) s)
      = (fun s : ℕ => valueAt x g W bias b ⟨h.val * 128 + v.val, by omega⟩ s
        * (((1 - forgetAt x g W bias lb b ⟨h.val * 128 + k.val, by omega⟩ s) * Real.exp
          (decay (fun s => Real.log (forgetAt x g W bias lb b ⟨h.val * 128 + k.val, by omega⟩ s)) 2048
            - decay (fun s => Real.log (forgetAt x g W bias lb b ⟨h.val * 128 + k.val, by omega⟩ s)) (s + 1)) : ℝ) : EReal)) s.val := by
    intro s
    have el : lidx_main_v47 (ix4 b h k v) s = ix4 b s h k := at_ix4 _ _ _ _ _ rfl rfl rfl rfl
    have er : ridx_main_v47 (ix4 b h k v) s = ix4 b s h v := at_ix4 _ _ _ _ _ rfl rfl rfl rfl
    rw [el, er, ref_key x g W bias lb hlb, ref_value x g W bias lb hlb]
    exact mul_comm _ _
  rw [val_main_v47_apply]
  refine (Finset.sum_congr rfl fun s _ => e s).trans ?_
  exact Fin.sum_univ_eq_sum_range (fun s : ℕ => valueAt x g W bias b ⟨h.val * 128 + v.val, by omega⟩ s
    * (((1 - forgetAt x g W bias lb b ⟨h.val * 128 + k.val, by omega⟩ s) * Real.exp
      (decay (fun s => Real.log (forgetAt x g W bias lb b ⟨h.val * 128 + k.val, by omega⟩ s)) 2048
        - decay (fun s => Real.log (forgetAt x g W bias lb b ⟨h.val * 128 + k.val, by omega⟩ s)) (s + 1)) : ℝ) : EReal)) 2048

end

end

end Cert.Proof.Mixer

end
-- ==== Proof.MixerPieces.lean ====
module

public import proofs.«01_k».proof.Proof.Gen.Kernel3Ideal.Frame.RunC

@[expose] public section

set_option maxRecDepth 65536

noncomputable section

namespace Cert.Kernel3Ideal.Gen

open Idealize.ShloMosaic Idealize.ShloMosaic.TcCoe Idealize.ShloMosaic.Tactic

variable {F : FTy → Type} [FloatOps F]

/-! ## What one tile of the mixer writes into its recurrent scratch buffers

Each buffer's writes are one list, last first, by recursion on the number of writes so far. -/

/-- Piece `n` of the projected columns lies in their buffer. -/
theorem inFig (n : ℕ) : ∀ a, (![256 * (n / 4 % 2), 1024 * (n % 4)] : Fin 2 → ℕ) a + S256x1024.size a ≤ S512x4096.size a := by
  intro a; fin_cases a <;> simp [S256x1024, S512x4096] <;> omega

/-- Half a tile's rows lie in the normalised rows. -/
theorem inHb (n : ℕ) : ∀ a, (![256 * (n / 4 % 2), 0] : Fin 2 → ℕ) a + S256x1024.size a ≤ S512x1024.size a := by
  intro a; fin_cases a <;> simp [S256x1024, S512x1024] <;> omega

/-- A group of 1024 projection columns lies in the weights. -/
theorem inWin (n : ℕ) : ∀ a, (![0, 512 + 1024 * (n % 4)] : Fin 2 → ℕ) a + S1024x1024.size a ≤ S1024x6656.size a := by
  intro a; fin_cases a <;> simp [S1024x1024, S1024x6656] <;> omega

/-- A group of 1024 projection columns lies in the bias. -/
theorem inBin (n : ℕ) : ∀ a, (![0, 512 + 1024 * (n % 4)] : Fin 2 → ℕ) a + S1x1024.size a ≤ S1x6656.size a := by
  intro a; fin_cases a <;> simp [S1x1024, S1x6656] <;> omega

/-- A chunk's rows of one group of projected columns lie in their buffer. -/
theorem inChunk (k c : ℕ) : ∀ a, (![64 * (c % 8), 1024 * (k % 4)] : Fin 2 → ℕ) a + S64x1024.size a ≤ S512x4096.size a := by
  intro a; fin_cases a <;> simp [S64x1024, S512x4096] <;> omega

/-- A factor lies in its slot. -/
theorem inFac (c j : ℕ) : ∀ a, (![c % 2, j % 5, 0, 0] : Fin 4 → ℕ) a + S1x1x64x1024.size a ≤ S2x5x64x1024.size a := by
  intro a; fin_cases a <;> simp [S1x1x64x1024, S2x5x64x1024] <;> omega

/-- One head's columns of a factor lie in its slot. -/
theorem inHead (c j h : ℕ) : ∀ a, (![c % 2, j % 5, 0, 128 * (h % 8)] : Fin 4 → ℕ) a + S1x1x64x128.size a ≤ S2x5x64x1024.size a := by
  intro a; fin_cases a <;> simp [S1x1x64x128, S2x5x64x1024] <;> omega

/-- A chunk's total decay lies in its slot. -/
theorem inEl (c : ℕ) : ∀ a, (![c % 2, 0, 0] : Fin 3 → ℕ) a + S1x1x1024.size a ≤ S2x1x1024.size a := by
  intro a; fin_cases a <;> simp [S1x1x1024, S2x1x1024] <;> omega

/-- One head's state lies in the states. -/
theorem inState (h : ℕ) : ∀ a, (![h % 8, 0, 0] : Fin 3 → ℕ) a + S1x128x128.size a ≤ S8x128x128.size a := by
  intro a; fin_cases a <;> simp [S1x128x128, S8x128x128] <;> omega

/-- One head's state lies in the result's block. -/
theorem inOut (h : ℕ) : ∀ a, (![0, h % 8, 0, 0] : Fin 4 → ℕ) a + S1x1x128x128.size a ≤ S1x8x128x128.size a := by
  intro a; fin_cases a <;> simp [S1x1x128x128, S1x8x128x128] <;> omega

/-- One head's columns of a row. -/
theorem headSlices (h : ℕ) : S1x1024.Slices ![0, 128 * (h % 8)] S1x128 :=
  ⟨rfl, fun a => by fin_cases a <;> simp [S1x1024, S1x128] <;> omega⟩

/-- A head's state after a chunk: the state before, decayed over the chunk, plus the chunk's values times its keys. -/
def headStep (h : ℕ) (e : FVec F S1x1024 .f32) (st : Vec F S1x128x128 .f32) (v k : Vec F S1x1x64x128 .bf16) : FVec F S1x128x128 .f32 :=
  shapeCast S1x128x128 (addf
    (mulf (shapeCast S128x128 st shapeCasts_S1x128x128_S128x128)
      (broadcastTo S128x128 (extractStridedSlice S1x128 ![0, 128 * (h % 8)] e (headSlices h)) broadcasts_S1x128_S128x128))
    (matmul dot_S64x128_S64x128_S128x128_0_0_1_1_n_n none (shapeCast S64x128 v shapeCasts_S1x1x64x128_S64x128)
      (shapeCast S64x128 k shapeCasts_S1x1x64x128_S64x128) (constant S128x128 .f32 0x00000000#32)))
    shapeCasts_S128x128_S1x128x128

/-- The chunk's causal mask, twice side by side. -/
def mask2 : FVec F S64x128 .bf16 :=
  k0_pay491 (iota .tc S64x64 32 [0] iota_S64x64_d0_w32) (iota .tc S64x64 32 [1] iota_S64x64_d1_w32)

section
variable (arg2 : Memref sig .tc .vmem S1x512x1024 .f32) (harg2 : arg2.IsWhole) (arg3 : Memref sig .tc .vmem S1x1024 .f32) (harg3 : arg3.IsWhole)
  (arg4 : Memref sig .tc .vmem S1024x6656 .bf16) (harg4 : arg4.IsWhole) (arg5 : Memref sig .tc .vmem S1x6656 .f32) (harg5 : arg5.IsWhole)
  (arg13 : Memref sig .tc .vmem S1x1024 .f32) (harg13 : arg13.IsWhole) (arg23 : Memref sig .tc .vmem S512x1024 .bf16)
  (arg32 : Memref sig .tc .vmem S8x128x128 .f32) (harg32 : arg32.IsWhole) (arg33 : Memref sig .tc .vmem S512x4096 .f32)
  (arg36 : Memref sig .tc .vmem S2x5x64x1024 .bf16) (arg37 : Memref sig .tc .vmem S2x1x1024 .f32)
  (x0 : Vec F S1x512x1024 .f32) (x1 : Vec F S1x1024 .f32) (x2 : Vec F S1024x6656 .bf16) (x3 : Vec F S1x6656 .f32) (x11 : Vec F S1x1024 .f32)
  (xs9 : Vec F S8x128x128 .f32)

/-- The normalised rows' one write. -/
def hbPieces : List (View.Piece (Elt F) S512x1024 .bf16) :=
  [⟨Rect.unit ![0, 0] S512x1024.size inb_S512x1024_S512x1024_0_0,
    k0_pay15 (View.readAt (Elt F) arg2.view (Rect.unit (s := S1x512x1024) ![0, 0, 0] S1x512x1024.size inb_S1x512x1024_S1x512x1024_0_0_0).toLoadRect (harg2.unread x0))
      (View.readAt (Elt F) arg3.view (Rect.unit (s := S1x1024) ![0, 0] S1x1024.size inb_S1x1024_S1x1024_0_0).toLoadRect (harg3.unread x1))⟩]

/-- The first `n` writes of the projected columns: four groups of the first half tile, then four of the second. -/
def figPieces : ℕ → List (View.Piece (Elt F) S512x4096 .f32)
  | 0 => []
  | n + 1 => ⟨Rect.unit ![256 * (n / 4 % 2), 1024 * (n % 4)] S256x1024.size (inFig n),
      k0_pay21 (arg23.view.readCov (hbPieces arg2 harg2 arg3 harg3 x0 x1) (Rect.unit (s := S512x1024) ![256 * (n / 4 % 2), 0] S256x1024.size (inHb n)).toLoadRect)
        (View.readAt (Elt F) arg4.view (Rect.unit (s := S1024x6656) ![0, 512 + 1024 * (n % 4)] S1024x1024.size (inWin n)).toLoadRect (harg4.unread x2))
        (View.readAt (Elt F) arg5.view (Rect.unit (s := S1x6656) ![0, 512 + 1024 * (n % 4)] S1x1024.size (inBin n)).toLoadRect (harg5.unread x3))⟩ :: figPieces n

/-- Chunk `c`'s rows of group `k` of the projected columns, as the body loads them. -/
def figLoad (k c : ℕ) : FVec F S64x1024 .f32 :=
  arg33.view.readCov (figPieces arg2 harg2 arg3 harg3 arg4 harg4 arg5 harg5 arg23 x0 x1 x2 x3 (4 + min (c - 1) 4))
    (Rect.unit (s := S512x4096) ![64 * (c % 8), 1024 * (k % 4)] S64x1024.size (inChunk k c)).toLoadRect

/-- The bound of the forget factors, as the body loads it. -/
def boundLoad : Vec F S1x1024 .f32 :=
  View.readAt (Elt F) arg13.view (Rect.unit (s := S1x1024) ![0, 0] S1x1024.size inb_S1x1024_S1x1024_0_0).toLoadRect (harg13.unread x11)

/-- Chunk `c`'s running sums of the logarithms of its forget factors. -/
def runningLog (c : ℕ) : FVec F S64x1024 .f32 :=
  k0_pay928 mask2 (k0_pay492 (boundLoad arg13 harg13 x11)) (k0_pay493 (boundLoad arg13 harg13 x11))
    (figLoad arg2 harg2 arg3 harg3 arg4 harg4 arg5 harg5 arg23 arg33 x0 x1 x2 x3 1 c)

/-- One minus chunk `c`'s forget factors. -/
def keyRows (c : ℕ) : FVec F S64x1024 .f32 :=
  k0_pay927 (k0_pay492 (boundLoad arg13 harg13 x11)) (k0_pay493 (boundLoad arg13 harg13 x11))
    (figLoad arg2 harg2 arg3 harg3 arg4 harg4 arg5 harg5 arg23 arg33 x0 x1 x2 x3 1 c)

/-- The factors of the first `n` chunks, five a chunk, two chunks at a time. -/
def facPieces : ℕ → List (View.Piece (Elt F) S2x5x64x1024 .bf16)
  | 0 => []
  | c + 1 =>
    have q : FVec F S64x1024 .f32 := k0_pay925 (figLoad arg2 harg2 arg3 harg3 arg4 harg4 arg5 harg5 arg23 arg33 x0 x1 x2 x3 0 c)
    have b : FVec F S64x1024 .f32 := runningLog arg2 harg2 arg3 harg3 arg4 harg4 arg5 harg5 arg13 harg13 arg23 arg33 x0 x1 x2 x3 x11 c
    have k : FVec F S64x1024 .f32 := keyRows arg2 harg2 arg3 harg3 arg4 harg4 arg5 harg5 arg13 harg13 arg23 arg33 x0 x1 x2 x3 x11 c
    ⟨Rect.unit ![c % 2, 4 % 5, 0, 0] S1x1x64x1024.size (inFac c 4),
      k0_pay938 (k0_pay937 (figLoad arg2 harg2 arg3 harg3 arg4 harg4 arg5 harg5 arg23 arg33 x0 x1 x2 x3 2 c))⟩ ::
    ⟨Rect.unit ![c % 2, 3 % 5, 0, 0] S1x1x64x1024.size (inFac c 3), k0_pay936 k b⟩ ::
    ⟨Rect.unit ![c % 2, 2 % 5, 0, 0] S1x1x64x1024.size (inFac c 2), k0_pay935 q b⟩ ::
    ⟨Rect.unit ![c % 2, 1 % 5, 0, 0] S1x1x64x1024.size (inFac c 1), k0_pay934 k b⟩ ::
    ⟨Rect.unit ![c % 2, 0 % 5, 0, 0] S1x1x64x1024.size (inFac c 0), k0_pay933 q b⟩ :: facPieces c

/-- The total decays of the first `n` chunks, two chunks at a time. -/
def elPieces : ℕ → List (View.Piece (Elt F) S2x1x1024 .f32)
  | 0 => []
  | c + 1 => ⟨Rect.unit ![c % 2, 0, 0] S1x1x1024.size (inEl c),
      k0_pay939 (k0_pay930 (runningLog arg2 harg2 arg3 harg3 arg4 harg4 arg5 harg5 arg13 harg13 arg23 arg33 x0 x1 x2 x3 x11 c))⟩ :: elPieces c

/-- One head's columns of factor `j` of chunk `c`, as the body loads them. -/
def facLoad (c j h : ℕ) : Vec F S1x1x64x128 .bf16 :=
  arg36.view.readCov (facPieces arg2 harg2 arg3 harg3 arg4 harg4 arg5 harg5 arg13 harg13 arg23 arg33 x0 x1 x2 x3 x11 (min (c + 2) 8))
    (Rect.unit (s := S2x5x64x1024) ![c % 2, j % 5, 0, 128 * (h % 8)] S1x1x64x128.size (inHead c j h)).toLoadRect

/-- Chunk `c`'s total decay, as the body loads it. -/
def elLoad (c : ℕ) : Vec F S1x1x1024 .f32 :=
  arg37.view.readCov (elPieces arg2 harg2 arg3 harg3 arg4 harg4 arg5 harg5 arg13 harg13 arg23 arg33 x0 x1 x2 x3 x11 (min (c + 2) 8))
    (Rect.unit (s := S2x1x1024) ![c % 2, 0, 0] S1x1x1024.size (inEl c)).toLoadRect

/-- The first `n` writes of the states, head by head and chunk by chunk, after the writes `L0`; a state is loaded by `ld`. -/
def stPieces (ld : ℕ → List (View.Piece (Elt F) S8x128x128 .f32) → Vec F S1x128x128 .f32) (L0 : List (View.Piece (Elt F) S8x128x128 .f32)) :
    ℕ → List (View.Piece (Elt F) S8x128x128 .f32)
  | 0 => L0
  | n + 1 =>
    ⟨Rect.unit ![n % 8, 0, 0] S1x128x128.size (inState n),
      headStep n (k0_pay1010 (elLoad arg2 harg2 arg3 harg3 arg4 harg4 arg5 harg5 arg13 harg13 arg23 arg33 arg37 x0 x1 x2 x3 x11 (n / 8)))
        (ld n (stPieces ld L0 n))
        (facLoad arg2 harg2 arg3 harg3 arg4 harg4 arg5 harg5 arg13 harg13 arg23 arg33 arg36 x0 x1 x2 x3 x11 (n / 8) 4 n)
        (facLoad arg2 harg2 arg3 harg3 arg4 harg4 arg5 harg5 arg13 harg13 arg23 arg33 arg36 x0 x1 x2 x3 x11 (n / 8) 3 n)⟩ :: stPieces ld L0 n

/-- A state read back after the writes `L`. -/
def stBack (n : ℕ) (L : List (View.Piece (Elt F) S8x128x128 .f32)) : Vec F S1x128x128 .f32 :=
  arg32.view.readCov L (Rect.unit (s := S8x128x128) ![n % 8, 0, 0] S1x128x128.size (inState n)).toLoadRect

/-- A state read in a tile that carries on: in the first chunk what the tile before left. -/
def stCarried (n : ℕ) (L : List (View.Piece (Elt F) S8x128x128 .f32)) : Vec F S1x128x128 .f32 :=
  if n < 8 then View.readAt (Elt F) arg32.view (Rect.unit (s := S8x128x128) ![n % 8, 0, 0] S1x128x128.size (inState n)).toLoadRect (harg32.unread xs9)
  else stBack arg32 n L

/-- The zero a sequence's first tile writes into the states. -/
def zeroPieces : List (View.Piece (Elt F) S8x128x128 .f32) :=
  [⟨Rect.unit ![0, 0, 0] S8x128x128.size inb_S8x128x128_S8x128x128_0_0_0, k0_pay14⟩]

/-- The first `n` writes of the last tile into the result, after the writes `L` into the states. -/
def outPieces (L : List (View.Piece (Elt F) S8x128x128 .f32)) : ℕ → List (View.Piece (Elt F) S1x8x128x128 .f32)
  | 0 => []
  | n + 1 => ⟨Rect.unit ![0, n % 8, 0, 0] S1x1x128x128.size (inOut n), k0_pay4 (stBack arg32 n L)⟩ :: outPieces L n

end

section
variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x6656 .bf16) (harg4 : arg4.IsWhole) (arg5 : Memref sig .tc .vmem S1x6656 .f32) (harg5 : arg5.IsWhole) (arg6 : Memref sig .tc .vmem S16x256x512 .bf16) (harg6 : arg6.IsWhole) (arg7 : Memref sig .tc .vmem S16x256x256 .bf16) (harg7 : arg7.IsWhole) (arg8 : Memref sig .tc .vmem S6x2048 .f32) (harg8 : arg8.IsWhole) (arg9 : Memref sig .tc .vmem S6x2048 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S512x1024 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S1x1x2048 .f32) (harg20 : arg20.IsWhole) (arg21 : Memref sig .tc .vmem S1x1x2048 .f32) (harg21 : arg21.IsWhole) (arg22 : Memref sig .tc .vmem S1x8x128x128 .f32) (harg22 : arg22.IsWhole) (arg23 : Memref sig .tc .vmem S512x1024 .bf16) (harg23 : arg23.IsWhole) (arg24 : Memref sig .tc .vmem S4x512x128 .f32) (harg24 : arg24.IsWhole) (arg25 : Memref sig .tc .vmem S4x512x128 .f32) (harg25 : arg25.IsWhole) (arg26 : Memref sig .tc .vmem S16x64x256 .bf16) (harg26 : arg26.IsWhole) (arg27 : Memref sig .tc .vmem S16x64x256 .f32) (harg27 : arg27.IsWhole) (arg28 : Memref sig .tc .vmem S64x2048 .f32) (harg28 : arg28.IsWhole) (arg29 : Memref sig .tc .vmem S64x2048 .f32) (harg29 : arg29.IsWhole) (arg30 : Memref sig .tc .vmem S1x2048 .f32) (harg30 : arg30.IsWhole) (arg31 : Memref sig .tc .vmem S1x2048 .f32) (harg31 : arg31.IsWhole) (arg32 : Memref sig .tc .vmem S8x128x128 .f32) (harg32 : arg32.IsWhole) (arg33 : Memref sig .tc .vmem S512x4096 .f32) (harg33 : arg33.IsWhole) (arg34 : Memref sig .tc .vmem S512x1024 .bf16) (harg34 : arg34.IsWhole) (arg35 : Memref sig .tc .vmem S512x1024 .f32) (harg35 : arg35.IsWhole) (arg36 : Memref sig .tc .vmem S2x5x64x1024 .bf16) (harg36 : arg36.IsWhole) (arg37 : Memref sig .tc .vmem S2x1x1024 .f32) (harg37 : arg37.IsWhole) (arg38 : Memref sig .tc .vmem S512x1024 .f32) (harg38 : arg38.IsWhole)
  (x0 : Vec F S1x512x1024 .f32) (x1 : Vec F S1x1024 .f32) (x2 : Vec F S1024x6656 .bf16) (x3 : Vec F S1x6656 .f32) (x4 : Vec F S16x256x512 .bf16) (x5 : Vec F S16x256x256 .bf16) (x6 : Vec F S6x2048 .f32) (x7 : Vec F S6x2048 .f32) (x8 : Vec F S1x512 .f32) (x9 : Vec F S512x512 .bf16) (x10 : Vec F S1x512 .f32) (x11 : Vec F S1x1024 .f32) (x12 : Vec F S1x1024 .f32) (x13 : Vec F S512x1024 .bf16) (x14 : Vec F S1024x1024 .bf16) (x15 : Vec F S1024x1024 .bf16) (x16 : Vec F S1x1024 .f32) (xs7 : Vec F S1x2048 .f32) (xs8 : Vec F S1x2048 .f32) (xs9 : Vec F S8x128x128 .f32)

/-- A sequence's first tile's writes into the states. -/
theorem runA_states (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 hc1 x0 x1 x2 x3 x4 x5 x6 x7 x8 x9 x10 x11 x12 x13 x14 x15 x16).2.2.2.2.2.2.1
      = stPieces arg2 harg2 arg3 harg3 arg4 harg4 arg5 harg5 arg13 harg13 arg23 arg33 arg36 arg37 x0 x1 x2 x3 x11 (stBack arg32) zeroPieces 64 := by
  sl_kernel_rfl

/-- A middle tile's writes into the states. -/
theorem runB_states (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 hc1 x0 x1 x2 x3 x4 x5 x6 x7 x8 x9 x10 x11 x12 x13 x14 x15 x16 xs7 xs8 xs9).2.2.2.2.2.2.1
      = stPieces arg2 harg2 arg3 harg3 arg4 harg4 arg5 harg5 arg13 harg13 arg23 arg33 arg36 arg37 x0 x1 x2 x3 x11 (stCarried arg32 harg32 xs9) [] 64 := by
  sl_kernel_rfl

/-- A sequence's last tile's writes into the states. -/
theorem runC_states (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 hc1 x0 x1 x2 x3 x4 x5 x6 x7 x8 x9 x10 x11 x12 x13 x14 x15 x16 xs7 xs8 xs9).2.2.2.2.2.2.1
      = stPieces arg2 harg2 arg3 harg3 arg4 harg4 arg5 harg5 arg13 harg13 arg23 arg33 arg36 arg37 x0 x1 x2 x3 x11 (stCarried arg32 harg32 xs9) [] 64 := by
  sl_kernel_rfl

/-- A sequence's last tile's writes into the result: each head's state transposed. -/
theorem runC_result (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 hc1 x0 x1 x2 x3 x4 x5 x6 x7 x8 x9 x10 x11 x12 x13 x14 x15 x16 xs7 xs8 xs9).2.2.2.1
      = outPieces arg32 (stPieces arg2 harg2 arg3 harg3 arg4 harg4 arg5 harg5 arg13 harg13 arg23 arg33 arg36 arg37 x0 x1 x2 x3 x11 (stCarried arg32 harg32 xs9) [] 64) 8 := by
  sl_kernel_rfl

end

end Cert.Kernel3Ideal.Gen

end
-- ==== Proof.MixerValue.lean ====
module

public import proofs.«01_k».proof.Proof.MixerPieces
public import proofs.«01_k».proof.Proof.MixerMath
public import Idealize.ShloMosaic.Lib.Pipeline.ValueKit.Geometry
public import Idealize.ShloMosaic.Lib.Pipeline.ValueKit.Tiles

@[expose] public section

set_option maxRecDepth 65536

noncomputable section

namespace Cert.Kernel3Ideal.Gen

open Idealize.ShloMosaic Idealize.ShloMosaic.TcCoe Idealize.ShloMosaic.Tactic
open Cert.Proof.Mixer
open Cert.Kernel2Ideal.Gen (rowScale)

/-! ## Lists of writes read at an index -/

section
variable {F : FTy → Type} [FloatOps F] {S : Shape} {e : EltTy}

/-- Under the last write, the contents are that write's. -/
theorem canon_hit (off size : Fin S.rank → ℕ) (inb : ∀ a, off a + size a ≤ S.size a) (w : (Rect.unit off size inb).shape.Idx → Elt F e)
    (L : List (View.Piece (Elt F) S e)) (y : S.Idx) (x : (Rect.unit off size inb).shape.Idx) (h : ∀ a, (y a).val = off a + (x a).val) :
    View.canon ((⟨Rect.unit off size inb, w⟩ : View.Piece (Elt F) S e) :: L) y = w x := by
  have e : y = (Rect.unit off size inb).emb x := funext fun a => Fin.ext (by rw [h a]; show _ = off a + 1 * (x a).val; omega)
  rw [e]
  exact View.canon_cons_emb _ _ _ _

/-- Off it, those of the writes before. -/
theorem canon_miss (off size : Fin S.rank → ℕ) (inb : ∀ a, off a + size a ≤ S.size a) (w : (Rect.unit off size inb).shape.Idx → Elt F e)
    (L : List (View.Piece (Elt F) S e)) (y : S.Idx) (a : Fin S.rank) (h : (y a).val < off a ∨ off a + size a ≤ (y a).val) :
    View.canon ((⟨Rect.unit off size inb, w⟩ : View.Piece (Elt F) S e) :: L) y = View.canon L y := by
  refine View.canon_cons_of_not_mem _ _ fun hm => ?_
  have := (Rect.mem_set_unit (inb := inb)).mp hm a
  omega

/-- A load after the writes `L`. -/
theorem load_back {sig : RefSig} {κ : Kind} {sp : Space} (v : View sig κ sp S e) (L : List (View.Piece (Elt F) S e)) (off size : Fin S.rank → ℕ)
    (inb : ∀ a, off a + size a ≤ S.size a) (x : (Rect.unit off size inb).shape.Idx) (y : S.Idx) (h : ∀ a, (y a).val = off a + (x a).val) :
    v.readCov L (Rect.unit off size inb).toLoadRect x = View.canon L y := by
  rw [View.readCov_eq_canon']
  exact congrArg (View.canon L) (funext fun a => Fin.ext (by rw [h a]; show off a + 1 * (x a).val = _; omega))

/-- A load of whole contents. -/
theorem load_held {sig : RefSig} {κ : Kind} {sp : Space} (M : Memref sig κ sp S e) (hM : M.IsWhole) (X : Vec F S e) (off size : Fin S.rank → ℕ)
    (inb : ∀ a, off a + size a ≤ S.size a) (x : (Rect.unit off size inb).shape.Idx) (y : S.Idx) (h : ∀ a, (y a).val = off a + (x a).val) :
    View.readAt (Elt F) M.view (Rect.unit off size inb).toLoadRect (hM.unread X) x = X y := by
  show View.readAt (Elt F) M.view (Rect.unit off size inb) (hM.unread X) x = X y
  rw [View.readAt_eq_ld, hM.read_unread]
  exact congrArg X (funext fun a => Fin.ext (by rw [h a]; show off a + 1 * (x a).val = _; omega))

end

/-! ## The payloads at an index -/

/-- The normalised rows under the gain. -/
theorem normalised_apply (x : Vec Ideal S1x512x1024 .f32) (g : Vec Ideal S1x1024 .f32) (r : Fin 512) (a : Fin 1024) :
    k0_pay15 x g (ix2 r a) = x (ix3 0 r a) * rowScale (fun b => x (ix3 0 r b)) * g (ix2 0 a) := by
  unfold rowScale
  unfold_payloads
  pointwise

/-- A projection: the rows times the columns, plus the bias. -/
theorem projected_apply (h : Vec Ideal S256x1024 .bf16) (w : Vec Ideal S1024x1024 .bf16) (b : Vec Ideal S1x1024 .f32) (r : Fin 256) (k : Fin 1024) :
    k0_pay21 h w b (ix2 r k) = (∑ a, h (ix2 r a) * w (ix2 a k)) + b (ix2 0 k) := by
  unfold_payloads
  pointwise

/-- A head's state after a chunk, at an index. -/
theorem headStep_apply (h : Fin 8) (n : ℕ) (hn : n % 8 = h.val) (e : FVec Ideal S1x1024 .f32) (st : Vec Ideal S1x128x128 .f32) (v k : Vec Ideal S1x1x64x128 .bf16) (a b : Fin 128) :
    headStep n e st v k (ix3 0 a b) = st (ix3 0 a b) * e (ix2 0 ⟨h.val * 128 + b.val, by omega⟩) + ∑ i, v (ix4 0 0 i a) * k (ix4 0 0 i b) := by
  unfold headStep
  pointwise
  congr 3
  refine congrArg₂ ix2 rfl (Fin.ext ?_)
  show 128 * (n % 8) + b.val = h.val * 128 + b.val
  omega

/-- The values as a factor. -/
theorem valueFactor_apply (z : Vec Ideal S64x1024 .f32) (i : Fin 64) (c : Fin 1024) : k0_pay938 (k0_pay937 z) (ix4 0 0 i c) = z (ix2 i c) := by
  unfold_payloads
  pointwise

/-- The keys as a factor: each decayed to the middle row, then from there to the last. -/
theorem keyFactor_apply (k b : FVec Ideal S64x1024 .f32) (i : Fin 64) (c : Fin 1024) :
    k0_pay936 k b (ix4 0 0 i c) = k (ix2 i c) * Ideal.exp (b (ix2 31 c) - b (ix2 i c)) * Ideal.exp (b (ix2 63 c) - b (ix2 31 c)) := by
  unfold_payloads
  pointwise

/-- The total decay of a chunk. -/
theorem total_apply (b : FVec Ideal S64x1024 .f32) (c : Fin 1024) : k0_pay939 (k0_pay930 b) (ix3 0 0 c) = Ideal.exp (b (ix2 63 c)) := by
  unfold_payloads
  pointwise

/-- The total decay as a row. -/
theorem totalRow_apply (e : Vec Ideal S1x1x1024 .f32) (c : Fin 1024) : k0_pay1010 e (ix2 0 c) = e (ix3 0 0 c) := by
  unfold_payloads
  pointwise

/-- A state transposed. -/
theorem result_apply (s : Vec Ideal S1x128x128 .f32) (a b : Fin 128) : k0_pay4 s (ix4 0 0 a b) = s (ix3 0 b a) := by
  unfold_payloads
  pointwise

/-- The states a sequence starts from. -/
theorem zero_apply (i : S8x128x128.Idx) : k0_pay14 (F := Ideal) i = 0 := by
  unfold_payloads
  pointwise

/-- The forget factors' formula. -/
theorem forgetFactor_apply (p q : FVec Ideal S1x1024 .f32) (z : Vec Ideal S64x1024 .f32) (i : Fin 64) (c : Fin 1024) :
    k0_pay926 p q z (ix2 i c) = p (ix2 0 c) + q (ix2 0 c) * Ideal.tanh (((1 / 2 : ℝ) : EReal) * z (ix2 i c)) := by
  rw [← ofBits_half]
  unfold_payloads
  pointwise

/-- One minus the forget factors. -/
theorem key_apply (p q : FVec Ideal S1x1024 .f32) (z : Vec Ideal S64x1024 .f32) (i : Fin 64) (c : Fin 1024) :
    k0_pay927 p q z (ix2 i c) = 1 - k0_pay926 p q z (ix2 i c) := by
  rw [← Ideal.ofBits_one_f32]
  unfold k0_pay927
  pointwise

/-- Half of one plus the bound. -/
theorem half_add_apply (l : Vec Ideal S1x1024 .f32) (c : Fin 1024) : k0_pay492 l (ix2 0 c) = ((1 / 2 : ℝ) : EReal) * (1 + l (ix2 0 c)) := by
  rw [← ofBits_half, ← Ideal.ofBits_one_f32]
  unfold_payloads
  pointwise

/-- Half of one minus the bound. -/
theorem half_sub_apply (l : Vec Ideal S1x1024 .f32) (c : Fin 1024) : k0_pay493 l (ix2 0 c) = ((1 / 2 : ℝ) : EReal) * (1 - l (ix2 0 c)) := by
  rw [← ofBits_half, ← Ideal.ofBits_one_f32]
  unfold_payloads
  pointwise

/-- The bits of the causal mask. -/
theorem mask_bits : ∀ i j : Fin 64, BitVec.setWidth 32 (IntOp.cmpi CmpIPredicate.sle (BitVec.ofNat 32 j.val) (BitVec.ofNat 32 i.val)) = if j ≤ i then 1#32 else 0#32 := by
  decide +kernel

/-- A mask bit as a number. -/
theorem mask_number (i j : Fin 64) :
    (FloatOps.sitofp FTy.f32 (BitVec.setWidth 32 (IntOp.cmpi CmpIPredicate.sle (BitVec.ofNat 32 j.val) (BitVec.ofNat 32 i.val))) : Ideal .f32) = if j ≤ i then (1 : EReal) else 0 := by
  rw [mask_bits]
  show (((if j ≤ i then 1#32 else 0#32 : BitVec 32).toInt : ℝ) : EReal) = _
  split <;> simp

/-- The causal mask's left half. -/
theorem mask_left (i : Fin 64) (j : Fin 64) (k : Fin 128) (hk : k.val = j.val) : mask2 (F := Ideal) (ix2 i k) = if j ≤ i then (1 : EReal) else 0 := by
  unfold mask2
  unfold_payloads
  pointwise
  rw [dif_pos (hk ▸ j.isLt), hk]
  exact mask_number i j

/-- The causal matrix times the logarithms, high and low parts one above the other: the logarithms' running sums. -/
theorem running_apply (p q : FVec Ideal S1x1024 .f32) (z : Vec Ideal S64x1024 .f32) (lf : ℕ → ℝ) (c : Fin 1024)
    (hf : ∀ j : Fin 64, Ideal.log (k0_pay926 p q z (ix2 j c)) = ((lf j.val : ℝ) : EReal)) (i : Fin 64) :
    k0_pay928 mask2 p q z (ix2 i c) = ((decay lf (i.val + 1) : ℝ) : EReal) := by
  unfold k0_pay928
  pointwise
  have e : ∀ j : Fin 64, ((lf j.val : ℝ) : EReal) - ((lf j.val : ℝ) : EReal) = 0 := fun j => by rw [← EReal.coe_sub, sub_self, EReal.coe_zero]
  simp only [hf, e, mul_zero, Finset.sum_const_zero, add_zero]
  rw [Finset.sum_congr rfl fun j _ => congrArg (· * ((lf j.val : ℝ) : EReal)) (mask_left i j ⟨j.val, by omega⟩ rfl)]
  obtain ⟨d, hd⟩ : ∃ d, 64 = (i.val + 1) + d := ⟨64 - (i.val + 1), by omega⟩
  unfold decay
  rw [coe_sum, Finset.sum_congr (g := fun j : Fin 64 => (fun n : ℕ => if n ≤ i.val then ((lf n : ℝ) : EReal) else 0) j.val) rfl fun j _ => by
      rw [ite_mul, one_mul, zero_mul]; rfl,
    Fin.sum_univ_eq_sum_range (fun n : ℕ => if n ≤ i.val then ((lf n : ℝ) : EReal) else 0),
    show Finset.range 64 = Finset.range (i.val + 1 + d) from congrArg _ hd, Finset.sum_range_add,
    Finset.sum_eq_zero (s := Finset.range d) fun j _ => if_neg (by omega), add_zero]
  exact Finset.sum_congr rfl fun j hj => if_pos (Nat.lt_succ_iff.mp (Finset.mem_range.mp hj))

end Cert.Kernel3Ideal.Gen

end
-- ==== Proof.MixerTile.lean ====
module

public import proofs.«01_k».proof.Proof.MixerValue

@[expose] public section

set_option maxRecDepth 65536

noncomputable section

namespace Cert.Kernel3Ideal.Gen

open Idealize.ShloMosaic Idealize.ShloMosaic.TcCoe Idealize.ShloMosaic.Tactic
open Cert.Proof.Mixer
open Cert.Kernel2Ideal.Gen (rowScale)

/-! ## The states after one tile -/

/-- Contents read back whole. -/
theorem whole_held {F : FTy → Type} [FloatOps F] {S : Shape} {e : EltTy} {sig : RefSig} {κ : Kind} {sp : Space} (M : Memref sig κ sp S e) (hM : M.IsWhole)
    (X : Vec F S e) (off : Fin S.rank → ℕ) (inb : ∀ a, off a + S.size a ≤ S.size a) (h : ∀ a, off a = 0) :
    (View.readAt (Elt F) M.view (Rect.unit off S.size inb).toLoadRect (hM.unread X) : S.Idx → Elt F e) = X :=
  funext fun y => load_held M hM X off S.size inb y y fun a => by rw [h a, Nat.zero_add]

/-- A row of a tile's projection. -/
def tileProj (x0 : Vec Ideal S1x512x1024 .f32) (x1 : Vec Ideal S1x1024 .f32) (x2 : Vec Ideal S1024x6656 .bf16) (x3 : Vec Ideal S1x6656 .f32)
    (r : Fin 512) (c : Fin 6656) : EReal :=
  projAt (fun a => x0 (ix3 0 r a)) (fun a => x1 (ix2 0 a)) (fun a => x2 (ix2 a c)) (x3 (ix2 0 c))

/-- A running sum from a later place on. -/
theorem decay_shift (lf : ℕ → ℝ) (n m : ℕ) : decay (fun j => lf (n + j)) m = decay lf (n + m) - decay lf n := by
  unfold decay
  rw [Finset.sum_range_add]
  ring

/-- A factor's place in its slot. -/
theorem slot_place (c : ℕ) (j : Fin 5) (i : Fin 64) (k : Fin 1024) (q : Fin 4) :
    (ix4 (⟨c % 2, by omega⟩ : Fin 2) j i k q).val = (![c % 2, j.val % 5, 0, 0] : Fin 4 → ℕ) q + (ix4 (0 : Fin 1) (0 : Fin 1) i k q).val := by
  fin_cases q
  · rfl
  · show j.val = j.val % 5 + 0
    omega
  · exact (Nat.zero_add _).symm
  · exact (Nat.zero_add _).symm

section
variable (arg2 : Memref sig .tc .vmem S1x512x1024 .f32) (harg2 : arg2.IsWhole) (arg3 : Memref sig .tc .vmem S1x1024 .f32) (harg3 : arg3.IsWhole)
  (arg4 : Memref sig .tc .vmem S1024x6656 .bf16) (harg4 : arg4.IsWhole) (arg5 : Memref sig .tc .vmem S1x6656 .f32) (harg5 : arg5.IsWhole)
  (arg13 : Memref sig .tc .vmem S1x1024 .f32) (harg13 : arg13.IsWhole) (arg23 : Memref sig .tc .vmem S512x1024 .bf16)
  (arg32 : Memref sig .tc .vmem S8x128x128 .f32) (harg32 : arg32.IsWhole) (arg33 : Memref sig .tc .vmem S512x4096 .f32)
  (arg36 : Memref sig .tc .vmem S2x5x64x1024 .bf16) (arg37 : Memref sig .tc .vmem S2x1x1024 .f32)
  (x0 : Vec Ideal S1x512x1024 .f32) (x1 : Vec Ideal S1x1024 .f32) (x2 : Vec Ideal S1024x6656 .bf16) (x3 : Vec Ideal S1x6656 .f32) (x11 : Vec Ideal S1x1024 .f32)
  (xs9 : Vec Ideal S8x128x128 .f32)

/-- The normalised rows after their write. -/
theorem rows_apply (r : Fin 512) (a : Fin 1024) :
    View.canon (hbPieces arg2 harg2 arg3 harg3 x0 x1) (ix2 r a) = x0 (ix3 0 r a) * rowScale (fun b => x0 (ix3 0 r b)) * x1 (ix2 0 a) := by
  refine (canon_hit _ _ _ _ _ (ix2 r a) (ix2 r a) fun q => by fin_cases q <;> simp).trans ((normalised_apply _ _ r a).trans ?_)
  rw [whole_held arg2 harg2 x0 _ _ fun q => by fin_cases q <;> rfl, whole_held arg3 harg3 x1 _ _ fun q => by fin_cases q <;> rfl]

/-- The projected columns after their first `n` writes. -/
theorem figs_apply (n : ℕ) (hn : n ≤ 8) (r : Fin 512) (k : Fin 4096) (h : 4 * (r.val / 256) + k.val / 1024 < n) :
    View.canon (figPieces arg2 harg2 arg3 harg3 arg4 harg4 arg5 harg5 arg23 x0 x1 x2 x3 n) (ix2 r k) = tileProj x0 x1 x2 x3 r ⟨512 + k.val, by omega⟩ := by
  induction n with
  | zero => omega
  | succ n ih =>
    by_cases he : 4 * (r.val / 256) + k.val / 1024 = n
    · have hr : r.val = 256 * (n / 4 % 2) + r.val % 256 := by omega
      have hk : k.val = 1024 * (n % 4) + k.val % 1024 := by omega
      refine (canon_hit _ _ (inFig n) _ _ (ix2 r k) (ix2 (⟨r.val % 256, by omega⟩ : Fin 256) (⟨k.val % 1024, by omega⟩ : Fin 1024)) fun q => by
        fin_cases q
        · exact hr
        · exact hk).trans ((projected_apply _ _ _ _ _).trans ?_)
      unfold tileProj projAt
      refine congrArg₂ (· + ·) (Finset.sum_congr rfl fun a _ => congrArg₂ (· * ·) ?_ ?_) ?_
      · exact (load_back _ _ _ _ (inHb n) _ (ix2 r a) fun q => by
          fin_cases q
          · exact hr
          · exact (Nat.zero_add _).symm).trans (rows_apply arg2 harg2 arg3 harg3 x0 x1 r a)
      · exact load_held arg4 harg4 x2 _ _ (inWin n) _ _ fun q => by
          fin_cases q
          · exact (Nat.zero_add _).symm
          · show 512 + k.val = 512 + 1024 * (n % 4) + k.val % 1024
            omega
      · exact load_held arg5 harg5 x3 _ _ (inBin n) _ _ fun q => by
          fin_cases q
          · rfl
          · show 512 + k.val = 512 + 1024 * (n % 4) + k.val % 1024
            omega
    · refine Eq.trans ?_ (ih (by omega) (by omega))
      by_cases h2 : r.val / 256 = n / 4
      · refine canon_miss _ _ (inFig n) _ _ _ (1 : Fin 2) ?_
        show k.val < 1024 * (n % 4) ∨ 1024 * (n % 4) + 1024 ≤ k.val
        omega
      · refine canon_miss _ _ (inFig n) _ _ _ (0 : Fin 2) ?_
        show r.val < 256 * (n / 4 % 2) ∨ 256 * (n / 4 % 2) + 256 ≤ r.val
        omega

/-- A chunk's rows of one group of projected columns. -/
theorem figLoad_apply (k c : ℕ) (hk : k < 3) (hc : c < 8) (i : Fin 64) (j : Fin 1024) :
    figLoad arg2 harg2 arg3 harg3 arg4 harg4 arg5 harg5 arg23 arg33 x0 x1 x2 x3 k c (ix2 i j)
      = tileProj x0 x1 x2 x3 ⟨64 * c + i.val, by omega⟩ ⟨512 + (1024 * k + j.val), by omega⟩ :=
  (load_back _ _ _ _ (inChunk k c) (ix2 i j) (ix2 (⟨64 * c + i.val, by omega⟩ : Fin 512) (⟨1024 * k + j.val, by omega⟩ : Fin 4096)) fun q => by
    fin_cases q
    · show 64 * c + i.val = 64 * (c % 8) + i.val
      omega
    · show 1024 * k + j.val = 1024 * (k % 4) + j.val
      omega).trans
    (figs_apply arg2 harg2 arg3 harg3 arg4 harg4 arg5 harg5 arg23 x0 x1 x2 x3 _ (by omega) _ ⟨1024 * k + j.val, by omega⟩ (by
      show 4 * ((64 * c + i.val) / 256) + (1024 * k + j.val) / 1024 < 4 + min (c - 1) 4
      omega))

/-! The steps of the tile as a stretch of a sequence: from step `n0` on, with forget factors `Fg` and values `Vs`. -/

/-- The projection's column of a forget channel. -/
def forgetCol (c : Fin 1024) : Fin 6656 := ⟨1536 + c.val, by omega⟩

/-- The projection's column of a value channel. -/
def valueCol (c : Fin 1024) : Fin 6656 := ⟨2560 + c.val, by omega⟩

variable (n0 : ℕ) (Fg : Fin 1024 → ℕ → ℝ) (Vs : Fin 1024 → ℕ → EReal)
  (hl : ∀ c, ∃ l : ℝ, x11 (ix2 0 c) = (l : EReal) ∧ 0 < l ∧ l < 1)
  (hF : ∀ (r : Fin 512) (c : Fin 1024), forget (x11 (ix2 0 c)).toReal (tileProj x0 x1 x2 x3 r (forgetCol c)) = Fg c (n0 + r.val))
  (hV : ∀ (r : Fin 512) (c : Fin 1024), tileProj x0 x1 x2 x3 r (valueCol c) = Vs c (n0 + r.val))

include hl hF in
/-- A chunk's forget factors. -/
theorem forget_chunk (c : ℕ) (hc : c < 8) (i : Fin 64) (j : Fin 1024) :
    k0_pay926 (k0_pay492 (boundLoad arg13 harg13 x11)) (k0_pay493 (boundLoad arg13 harg13 x11))
      (figLoad arg2 harg2 arg3 harg3 arg4 harg4 arg5 harg5 arg23 arg33 x0 x1 x2 x3 1 c) (ix2 i j) = ((Fg j (n0 + 64 * c + i.val) : ℝ) : EReal)
      ∧ 0 < Fg j (n0 + 64 * c + i.val) := by
  obtain ⟨l, hl, h0, h1⟩ := hl j
  have hb : boundLoad arg13 harg13 x11 = x11 := whole_held arg13 harg13 x11 _ _ fun q => by fin_cases q <;> rfl
  have e := hF ⟨64 * c + i.val, by omega⟩ j
  unfold forgetCol at e
  rw [hl, EReal.toReal_coe] at e
  rw [forgetFactor_apply, half_add_apply, half_sub_apply, hb, figLoad_apply _ _ _ _ _ _ _ _ _ _ _ _ _ _ 1 c (by omega) hc, hl,
    forget_kernel]
  have e2 : n0 + 64 * c + i.val = n0 + (64 * c + i.val) := by omega
  have e3 : (⟨512 + (1024 * 1 + j.val), by omega⟩ : Fin 6656) = ⟨1536 + j.val, by omega⟩ := Fin.ext (by show 512 + (1024 * 1 + j.val) = 1536 + j.val; omega)
  rw [e3, e2]
  exact ⟨congrArg _ e, e ▸ forget_pos h0 h1 _⟩

include hl hF in
/-- The running sums of a chunk's logarithms. -/
theorem running_chunk (c : ℕ) (hc : c < 8) (i : Fin 64) (j : Fin 1024) :
    runningLog arg2 harg2 arg3 harg3 arg4 harg4 arg5 harg5 arg13 harg13 arg23 arg33 x0 x1 x2 x3 x11 c (ix2 i j)
      = ((decay (fun s => Real.log (Fg j s)) (n0 + 64 * c + i.val + 1) - decay (fun s => Real.log (Fg j s)) (n0 + 64 * c) : ℝ) : EReal) := by
  refine (running_apply _ _ _ (fun s => Real.log (Fg j (n0 + 64 * c + s))) j (fun s => ?_) i).trans
    (congrArg _ (decay_shift (fun s => Real.log (Fg j s)) (n0 + 64 * c) (i.val + 1)))
  obtain ⟨e, hp⟩ := forget_chunk arg2 harg2 arg3 harg3 arg4 harg4 arg5 harg5 arg13 harg13 arg23 arg33 x0 x1 x2 x3 x11 n0 Fg hl hF c hc s j
  rw [e, log_pos hp]

include hl hF in
/-- A chunk's keys, decayed to its end. -/
theorem key_chunk (c : ℕ) (hc : c < 8) (i : Fin 64) (j : Fin 1024) :
    k0_pay936 (keyRows arg2 harg2 arg3 harg3 arg4 harg4 arg5 harg5 arg13 harg13 arg23 arg33 x0 x1 x2 x3 x11 c)
      (runningLog arg2 harg2 arg3 harg3 arg4 harg4 arg5 harg5 arg13 harg13 arg23 arg33 x0 x1 x2 x3 x11 c) (ix4 0 0 i j)
      = (((1 - Fg j (n0 + 64 * c + i.val)) * Real.exp (decay (fun s => Real.log (Fg j s)) (n0 + 64 * c + 64)
          - decay (fun s => Real.log (Fg j s)) (n0 + 64 * c + i.val + 1)) : ℝ) : EReal) := by
  have e1 : keyRows arg2 harg2 arg3 harg3 arg4 harg4 arg5 harg5 arg13 harg13 arg23 arg33 x0 x1 x2 x3 x11 c (ix2 i j)
      = ((1 - Fg j (n0 + 64 * c + i.val) : ℝ) : EReal) := by
    unfold keyRows
    rw [key_apply, (forget_chunk arg2 harg2 arg3 harg3 arg4 harg4 arg5 harg5 arg13 harg13 arg23 arg33 x0 x1 x2 x3 x11 n0 Fg hl hF c hc i j).1]
    rfl
  rw [keyFactor_apply, e1]
  simp only [running_chunk arg2 harg2 arg3 harg3 arg4 harg4 arg5 harg5 arg13 harg13 arg23 arg33 x0 x1 x2 x3 x11 n0 Fg hl hF c hc]
  rw [← EReal.coe_sub, ← EReal.coe_sub, Ideal.exp_coe, Ideal.exp_coe, ← EReal.coe_mul, ← EReal.coe_mul, mul_assoc, ← Real.exp_add]
  refine congrArg _ (congrArg _ (congrArg _ ?_))
  rw [show n0 + 64 * c + (63 : Fin 64).val + 1 = n0 + 64 * c + 64 from rfl]
  ring

include hl hF in
/-- A chunk's total decay. -/
theorem total_chunk (c : ℕ) (hc : c < 8) (j : Fin 1024) :
    k0_pay939 (k0_pay930 (runningLog arg2 harg2 arg3 harg3 arg4 harg4 arg5 harg5 arg13 harg13 arg23 arg33 x0 x1 x2 x3 x11 c)) (ix3 0 0 j)
      = ((Real.exp (decay (fun s => Real.log (Fg j s)) (n0 + 64 * c + 64) - decay (fun s => Real.log (Fg j s)) (n0 + 64 * c)) : ℝ) : EReal) := by
  rw [total_apply, running_chunk arg2 harg2 arg3 harg3 arg4 harg4 arg5 harg5 arg13 harg13 arg23 arg33 x0 x1 x2 x3 x11 n0 Fg hl hF c hc, Ideal.exp_coe]
  rfl

/-- A chunk's five writes leave the other slot as it was. -/
theorem facs_skip (c : ℕ) (s : Fin 2) (hs : s.val ≠ c % 2) (j : Fin 5) (i : Fin 64) (k : Fin 1024) :
    View.canon (facPieces arg2 harg2 arg3 harg3 arg4 harg4 arg5 harg5 arg13 harg13 arg23 arg33 x0 x1 x2 x3 x11 (c + 1)) (ix4 s j i k)
      = View.canon (facPieces arg2 harg2 arg3 harg3 arg4 harg4 arg5 harg5 arg13 harg13 arg23 arg33 x0 x1 x2 x3 x11 c) (ix4 s j i k) := by
  have h : ∀ t, (ix4 s j i k (0 : Fin 4)).val < (![c % 2, t, 0, 0] : Fin 4 → ℕ) 0 ∨ (![c % 2, t, 0, 0] : Fin 4 → ℕ) 0 + S1x1x64x1024.size (0 : Fin 4) ≤ (ix4 s j i k (0 : Fin 4)).val := fun t => by
    show s.val < c % 2 ∨ c % 2 + 1 ≤ s.val
    omega
  exact (canon_miss _ _ (inFac c 4) _ _ _ (0 : Fin 4) (h _)).trans <| (canon_miss _ _ (inFac c 3) _ _ _ (0 : Fin 4) (h _)).trans <|
    (canon_miss _ _ (inFac c 2) _ _ _ (0 : Fin 4) (h _)).trans <| (canon_miss _ _ (inFac c 1) _ _ _ (0 : Fin 4) (h _)).trans <|
    canon_miss _ _ (inFac c 0) _ _ _ (0 : Fin 4) (h _)

/-- Of the chunks whose factors are written when chunk `c` is used, `c` is the last in its slot. -/
theorem facs_slot (c : ℕ) (hc : c < 8) (j : Fin 5) (i : Fin 64) (k : Fin 1024) :
    View.canon (facPieces arg2 harg2 arg3 harg3 arg4 harg4 arg5 harg5 arg13 harg13 arg23 arg33 x0 x1 x2 x3 x11 (min (c + 2) 8)) (ix4 (⟨c % 2, by omega⟩ : Fin 2) j i k)
      = View.canon (facPieces arg2 harg2 arg3 harg3 arg4 harg4 arg5 harg5 arg13 harg13 arg23 arg33 x0 x1 x2 x3 x11 (c + 1)) (ix4 (⟨c % 2, by omega⟩ : Fin 2) j i k) := by
  rcases Nat.lt_or_ge c 7 with h | h
  · rw [show min (c + 2) 8 = (c + 1) + 1 by omega]
    exact facs_skip arg2 harg2 arg3 harg3 arg4 harg4 arg5 harg5 arg13 harg13 arg23 arg33 x0 x1 x2 x3 x11 (c + 1) _ (by show c % 2 ≠ (c + 1) % 2; omega) j i k
  · rw [show min (c + 2) 8 = c + 1 by omega]

/-- A head's columns of a chunk's factor. -/
theorem facLoad_slot (c : ℕ) (hc : c < 8) (j : Fin 5) (h : Fin 8) (n : ℕ) (hn : n % 8 = h.val) (i : Fin 64) (a : Fin 128) :
    facLoad arg2 harg2 arg3 harg3 arg4 harg4 arg5 harg5 arg13 harg13 arg23 arg33 arg36 x0 x1 x2 x3 x11 c j.val n (ix4 0 0 i a)
      = View.canon (facPieces arg2 harg2 arg3 harg3 arg4 harg4 arg5 harg5 arg13 harg13 arg23 arg33 x0 x1 x2 x3 x11 (c + 1))
          (ix4 (⟨c % 2, by omega⟩ : Fin 2) j i (⟨h.val * 128 + a.val, by omega⟩ : Fin 1024)) :=
  (load_back _ _ _ _ (inHead c j.val n) (ix4 0 0 i a) (ix4 (⟨c % 2, by omega⟩ : Fin 2) j i (⟨h.val * 128 + a.val, by omega⟩ : Fin 1024)) fun q => by
    fin_cases q
    · rfl
    · show j.val = j.val % 5 + 0
      omega
    · exact (Nat.zero_add _).symm
    · show h.val * 128 + a.val = 128 * (n % 8) + a.val
      omega).trans (facs_slot arg2 harg2 arg3 harg3 arg4 harg4 arg5 harg5 arg13 harg13 arg23 arg33 x0 x1 x2 x3 x11 c hc j i _)

include hV in
/-- A head's values of a chunk. -/
theorem value_load (c : ℕ) (hc : c < 8) (h : Fin 8) (n : ℕ) (hn : n % 8 = h.val) (i : Fin 64) (a : Fin 128) :
    facLoad arg2 harg2 arg3 harg3 arg4 harg4 arg5 harg5 arg13 harg13 arg23 arg33 arg36 x0 x1 x2 x3 x11 c 4 n (ix4 0 0 i a)
      = Vs ⟨h.val * 128 + a.val, by omega⟩ (n0 + 64 * c + i.val) := by
  refine (facLoad_slot arg2 harg2 arg3 harg3 arg4 harg4 arg5 harg5 arg13 harg13 arg23 arg33 arg36 x0 x1 x2 x3 x11 c hc 4 h n hn i a).trans ?_
  refine Eq.trans (canon_hit (F := Ideal) (S := S2x5x64x1024) (e := .bf16) _ _ (inFac c 4) _ _ _
    (ix4 (0 : Fin 1) (0 : Fin 1) i (⟨h.val * 128 + a.val, by omega⟩ : Fin 1024)) (slot_place c 4 i _)) ?_
  refine (valueFactor_apply _ _ _).trans ?_
  rw [figLoad_apply _ _ _ _ _ _ _ _ _ _ _ _ _ _ 2 c (by omega) hc]
  have e := hV ⟨64 * c + i.val, by omega⟩ ⟨h.val * 128 + a.val, by omega⟩
  unfold valueCol at e
  have e3 : (⟨512 + (1024 * 2 + (h.val * 128 + a.val)), by omega⟩ : Fin 6656) = ⟨2560 + (h.val * 128 + a.val), by omega⟩ := Fin.ext (by
    show 512 + (1024 * 2 + (h.val * 128 + a.val)) = 2560 + (h.val * 128 + a.val); omega)
  rw [show n0 + 64 * c + i.val = n0 + (64 * c + i.val) by omega]
  exact (congrArg _ e3).trans e

include hl hF in
/-- A head's keys of a chunk, decayed to its end. -/
theorem key_load (c : ℕ) (hc : c < 8) (h : Fin 8) (n : ℕ) (hn : n % 8 = h.val) (i : Fin 64) (a : Fin 128) (j : Fin 1024) (hj : j.val = h.val * 128 + a.val) :
    facLoad arg2 harg2 arg3 harg3 arg4 harg4 arg5 harg5 arg13 harg13 arg23 arg33 arg36 x0 x1 x2 x3 x11 c 3 n (ix4 0 0 i a)
      = (((1 - Fg j (n0 + 64 * c + i.val)) * Real.exp (decay (fun s => Real.log (Fg j s)) (n0 + 64 * c + 64)
          - decay (fun s => Real.log (Fg j s)) (n0 + 64 * c + i.val + 1)) : ℝ) : EReal) := by
  refine (facLoad_slot arg2 harg2 arg3 harg3 arg4 harg4 arg5 harg5 arg13 harg13 arg23 arg33 arg36 x0 x1 x2 x3 x11 c hc 3 h n hn i a).trans ?_
  rw [show (⟨h.val * 128 + a.val, by omega⟩ : Fin 1024) = j from Fin.ext hj.symm]
  refine Eq.trans (canon_miss (F := Ideal) (S := S2x5x64x1024) (e := .bf16) _ _ (inFac c 4) _ _ _ (1 : Fin 4) (Or.inl (by show 3 < 4; omega))) ?_
  refine Eq.trans (canon_hit (F := Ideal) (S := S2x5x64x1024) (e := .bf16) _ _ (inFac c 3) _ _ _
    (ix4 (0 : Fin 1) (0 : Fin 1) i j) (slot_place c 3 i j)) ?_
  exact key_chunk arg2 harg2 arg3 harg3 arg4 harg4 arg5 harg5 arg13 harg13 arg23 arg33 x0 x1 x2 x3 x11 n0 Fg hl hF c hc i _

include hl hF in
/-- A chunk's total decay, as a row. -/
theorem total_load (c : ℕ) (hc : c < 8) (j : Fin 1024) :
    k0_pay1010 (elLoad arg2 harg2 arg3 harg3 arg4 harg4 arg5 harg5 arg13 harg13 arg23 arg33 arg37 x0 x1 x2 x3 x11 c) (ix2 0 j)
      = ((Real.exp (decay (fun s => Real.log (Fg j s)) (n0 + 64 * c + 64) - decay (fun s => Real.log (Fg j s)) (n0 + 64 * c)) : ℝ) : EReal) := by
  refine (totalRow_apply _ j).trans ((load_back _ _ _ _ (inEl c) (ix3 0 0 j) (ix3 (⟨c % 2, by omega⟩ : Fin 2) (0 : Fin 1) j) fun q => by
    fin_cases q
    · rfl
    · rfl
    · exact (Nat.zero_add _).symm).trans ?_)
  have hit : View.canon (elPieces arg2 harg2 arg3 harg3 arg4 harg4 arg5 harg5 arg13 harg13 arg23 arg33 x0 x1 x2 x3 x11 (c + 1)) (ix3 (⟨c % 2, by omega⟩ : Fin 2) (0 : Fin 1) j)
      = ((Real.exp (decay (fun s => Real.log (Fg j s)) (n0 + 64 * c + 64) - decay (fun s => Real.log (Fg j s)) (n0 + 64 * c)) : ℝ) : EReal) :=
    Eq.trans (canon_hit (F := Ideal) (S := S2x1x1024) (e := .f32) _ _ (inEl c) _ _ _ (ix3 (0 : Fin 1) (0 : Fin 1) j) fun q => by
      fin_cases q
      · rfl
      · rfl
      · exact (Nat.zero_add _).symm)
      (total_chunk arg2 harg2 arg3 harg3 arg4 harg4 arg5 harg5 arg13 harg13 arg23 arg33 x0 x1 x2 x3 x11 n0 Fg hl hF c hc j)
  rcases Nat.lt_or_ge c 7 with h | h
  · rw [show min (c + 2) 8 = (c + 1) + 1 by omega]
    refine (canon_miss _ _ (inEl (c + 1)) _ _ _ (0 : Fin 3) ?_).trans hit
    show c % 2 < (c + 1) % 2 ∨ (c + 1) % 2 + 1 ≤ c % 2
    omega
  · rw [show min (c + 2) 8 = c + 1 by omega]
    exact hit

/-- Head `h`'s state after `n` steps of the sequence. -/
def seqState (h : Fin 8) (a b : Fin 128) (n : ℕ) : EReal :=
  stateAfter (Vs ⟨h.val * 128 + a.val, by omega⟩) (fun s => Real.log (Fg ⟨h.val * 128 + b.val, by omega⟩ s)) (fun s => 1 - Fg ⟨h.val * 128 + b.val, by omega⟩ s) n

include hl hF hV in
/-- The states after the tile's first `n` writes: a head is as many chunks on as it has been written. -/
theorem states_apply (ld : ℕ → List (View.Piece (Elt Ideal) S8x128x128 .f32) → Vec Ideal S1x128x128 .f32) (L0 : List (View.Piece (Elt Ideal) S8x128x128 .f32))
    (ld0 : ∀ (h : Fin 8) L, (∀ a b, View.canon L (ix3 h a b) = View.canon L0 (ix3 h a b)) → ∀ a b, ld h.val L (ix3 0 a b) = seqState Fg Vs h a b n0)
    (ld1 : ∀ (n : ℕ) (h : Fin 8), n % 8 = h.val → 8 ≤ n → ∀ L a b, ld n L (ix3 0 a b) = View.canon L (ix3 h a b)) (n : ℕ) (hn : n ≤ 64) (h : Fin 8) :
    (n ≤ h.val → ∀ a b, View.canon (stPieces arg2 harg2 arg3 harg3 arg4 harg4 arg5 harg5 arg13 harg13 arg23 arg33 arg36 arg37 x0 x1 x2 x3 x11 ld L0 n) (ix3 h a b)
        = View.canon L0 (ix3 h a b))
      ∧ (h.val < n → ∀ a b, View.canon (stPieces arg2 harg2 arg3 harg3 arg4 harg4 arg5 harg5 arg13 harg13 arg23 arg33 arg36 arg37 x0 x1 x2 x3 x11 ld L0 n) (ix3 h a b)
        = seqState Fg Vs h a b (n0 + 64 * ((n + 7 - h.val) / 8))) := by
  induction n with
  | zero => exact ⟨fun _ _ _ => rfl, fun h => absurd h (by omega)⟩
  | succ n ih =>
    have ih := ih (by omega)
    by_cases he : n % 8 = h.val
    · refine ⟨fun h2 => absurd h2 (by omega), fun _ a b => ?_⟩
      have hst : ld n (stPieces arg2 harg2 arg3 harg3 arg4 harg4 arg5 harg5 arg13 harg13 arg23 arg33 arg36 arg37 x0 x1 x2 x3 x11 ld L0 n) (ix3 0 a b)
          = seqState Fg Vs h a b (n0 + 64 * (n / 8)) := by
        rcases Nat.lt_or_ge n 8 with h8 | h8
        · obtain rfl : n = h.val := by omega
          rw [ld0 h _ (ih.1 le_rfl) a b, Nat.div_eq_of_lt h8, Nat.mul_zero, Nat.add_zero]
        · rw [ld1 n h he h8, ih.2 (by omega), show (n + 7 - h.val) / 8 = n / 8 by omega]
      refine (canon_hit _ _ (inState n) _ _ (ix3 h a b) (ix3 (0 : Fin 1) a b) fun q => by
        fin_cases q
        · exact he.symm
        · exact (Nat.zero_add _).symm
        · exact (Nat.zero_add _).symm).trans ((headStep_apply h n he _ _ _ _ a b).trans ?_)
      rw [hst, total_load arg2 harg2 arg3 harg3 arg4 harg4 arg5 harg5 arg13 harg13 arg23 arg33 arg37 x0 x1 x2 x3 x11 n0 Fg hl hF (n / 8) (by omega),
        show (n + 1 + 7 - h.val) / 8 = n / 8 + 1 by omega, show n0 + 64 * (n / 8 + 1) = n0 + 64 * (n / 8) + 64 by omega]
      unfold seqState
      rw [stateAfter_add _ _ _ (n0 + 64 * (n / 8)) 64, ← Fin.sum_univ_eq_sum_range]
      refine congrArg₂ (· + ·) rfl (Finset.sum_congr rfl fun i _ => congrArg₂ (· * ·) ?_ ?_)
      · exact value_load arg2 harg2 arg3 harg3 arg4 harg4 arg5 harg5 arg13 harg13 arg23 arg33 arg36 x0 x1 x2 x3 x11 n0 Vs hV (n / 8) (by omega) h n he i a
      · exact key_load arg2 harg2 arg3 harg3 arg4 harg4 arg5 harg5 arg13 harg13 arg23 arg33 arg36 x0 x1 x2 x3 x11 n0 Fg hl hF (n / 8) (by omega) h n he i b _ rfl
    · have hm : ∀ a b, View.canon (stPieces arg2 harg2 arg3 harg3 arg4 harg4 arg5 harg5 arg13 harg13 arg23 arg33 arg36 arg37 x0 x1 x2 x3 x11 ld L0 (n + 1)) (ix3 h a b)
          = View.canon (stPieces arg2 harg2 arg3 harg3 arg4 harg4 arg5 harg5 arg13 harg13 arg23 arg33 arg36 arg37 x0 x1 x2 x3 x11 ld L0 n) (ix3 h a b) := fun a b => by
        refine canon_miss _ _ (inState n) _ _ _ (0 : Fin 3) ?_
        show h.val < n % 8 ∨ n % 8 + 1 ≤ h.val
        omega
      refine ⟨fun h2 a b => (hm a b).trans (ih.1 (by omega) a b), fun h2 a b => (hm a b).trans ?_⟩
      rw [ih.2 (by omega), show (n + 1 + 7 - h.val) / 8 = (n + 7 - h.val) / 8 by omega]

end

end Cert.Kernel3Ideal.Gen

end
-- ==== Proof.MixerFinal.lean ====
module

public import proofs.«01_k».proof.Proof.MixerTile
public import proofs.«01_k».proof.Proof.Gen.Kernel3Ideal.Frame

@[expose] public section

set_option maxRecDepth 65536

noncomputable section

namespace Cert.Kernel3Ideal.Gen

open Idealize.ShloMosaic Idealize.ShloMosaic.TcCoe Idealize.ShloMosaic.Tactic
open Cert.Proof.Mixer
open Cert.Kernel2Ideal.Gen (rowScale)

/-! ## The states carried over the tiles of a sequence -/

/-- A state read back is the contents after the writes. -/
theorem stBack_apply (arg32 : Memref sig .tc .vmem S8x128x128 .f32) (n : ℕ) (h : Fin 8) (hn : n % 8 = h.val)
    (L : List (View.Piece (Elt Ideal) S8x128x128 .f32)) (a b : Fin 128) : stBack arg32 n L (ix3 0 a b) = View.canon L (ix3 h a b) :=
  load_back (F := Ideal) (S := S8x128x128) (e := .f32) _ _ _ _ (inState n) (ix3 0 a b) (ix3 h a b) fun q => by
    fin_cases q
    · exact hn.symm
    · exact (Nat.zero_add _).symm
    · exact (Nat.zero_add _).symm

/-- The result's block after the last tile's first `n` writes: each head's state transposed. -/
theorem outs_apply (arg32 : Memref sig .tc .vmem S8x128x128 .f32) (L : List (View.Piece (Elt Ideal) S8x128x128 .f32)) (n : ℕ) (hn : n ≤ 8) (h : Fin 8)
    (hh : h.val < n) (a b : Fin 128) : View.canon (outPieces arg32 L n) (ix4 0 h a b) = View.canon L (ix3 h b a) := by
  induction n with
  | zero => omega
  | succ n ih =>
    by_cases he : n = h.val
    · refine Eq.trans (canon_hit (F := Ideal) (S := S1x8x128x128) (e := .f32) _ _ (inOut n) _ _ _ (ix4 (0 : Fin 1) (0 : Fin 1) a b) fun q => by
        fin_cases q
        · rfl
        · show h.val = n % 8 + 0
          omega
        · exact (Nat.zero_add _).symm
        · exact (Nat.zero_add _).symm) ?_
      exact (result_apply _ a b).trans (stBack_apply arg32 n h (by omega) L b a)
    · refine Eq.trans (canon_miss (F := Ideal) (S := S1x8x128x128) (e := .f32) _ _ (inOut n) _ _ _ (1 : Fin 4) ?_) (ih (by omega) (by omega))
      show h.val < n % 8 ∨ n % 8 + 1 ≤ h.val
      omega

/-- What the tile before left is read back whole at a head's first chunk. -/
theorem stCarried_apply (arg32 : Memref sig .tc .vmem S8x128x128 .f32) (harg32 : arg32.IsWhole) (xs9 : Vec Ideal S8x128x128 .f32) (h : Fin 8)
    (L : List (View.Piece (Elt Ideal) S8x128x128 .f32)) (a b : Fin 128) : stCarried arg32 harg32 xs9 h.val L (ix3 0 a b) = xs9 (ix3 h a b) := by
  unfold stCarried
  rw [if_pos h.isLt]
  exact load_held arg32 harg32 xs9 _ _ (inState h.val) (ix3 0 a b) (ix3 h a b) fun q => by
    fin_cases q
    · exact (Nat.mod_eq_of_lt h.isLt).symm
    · exact (Nat.zero_add _).symm
    · exact (Nat.zero_add _).symm

/-- A head's later chunks read back the writes before. -/
theorem stCarried_later (arg32 : Memref sig .tc .vmem S8x128x128 .f32) (harg32 : arg32.IsWhole) (xs9 : Vec Ideal S8x128x128 .f32) (n : ℕ) (h : Fin 8) (hn : n % 8 = h.val) (h8 : 8 ≤ n)
    (L : List (View.Piece (Elt Ideal) S8x128x128 .f32)) (a b : Fin 128) : stCarried arg32 harg32 xs9 n L (ix3 0 a b) = View.canon L (ix3 h a b) := by
  unfold stCarried
  rw [if_neg (by omega)]
  exact stBack_apply arg32 n h hn L a b

/-- A sequence's first tile starts from zero. -/
theorem zeroes_apply (x : S8x128x128.Idx) : View.canon (zeroPieces (F := Ideal)) x = 0 := by
  refine Eq.trans (canon_hit (F := Ideal) (S := S8x128x128) (e := .f32) _ _ inb_S8x128x128_S8x128x128_0_0_0 _ _ _ x fun q => by
    fin_cases q <;> exact (Nat.zero_add _).symm) (zero_apply x)

variable (m : (ℓ : Loc nD τ sig) → Buf (Elt Ideal) ℓ)

theorem index_0 : ∀ t : Fin cfg0.N, win0_0.index t = ![t.val / 4, t.val % 4, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_11 : ∀ t : Fin cfg0.N, win0_11.index t = ![0, 0] := (by decide +kernel : ∀ t : Fin grid0.N, _)
theorem index_20 : ∀ t : Fin cfg0.N, win0_20.index t = ![t.val / 4, 0, 0, 0] := (by decide +kernel : ∀ t : Fin grid0.N, _)
theorem flush_20 : ∀ t : Fin cfg0.N, (cfg0.win 20).flush t = true → t.val % 4 = 3 := (by decide +kernel : ∀ t : Fin grid0.N, _)

/-- The weights the call gets are the weights as launched: the host's conversion changes no value in exact arithmetic. -/
theorem V_main_v0 (c : Dev nD) : (V m c main_v0 : Vec Ideal S1024x6656 .bf16) = (m (c.tc.loc main_arg2) : Vec Ideal S1024x6656 .f32) := by
  simp only [V, hostOps0, List.flatten_cons, List.flatten_nil, List.append_nil, List.cons_append, List.nil_append, StableHlo.after_cons, StableHlo.after_nil]
  exact (StableHlo.unary_result (τ := τ) (Val := Elt Ideal) main_arg2 main_v0 _ _ _ (fun b => m (c, b))).trans rfl

theorem xBlock_apply (c : Dev nD) (t : Fin cfg0.N) (b : Fin 8) (hb : b.val = t.val / 4) (r : Fin 512) (s : Fin 2048) (hs : s.val = 512 * (t.val % 4) + r.val) (a : Fin 1024) :
    (iblk m c 0 t : Vec Ideal S1x512x1024 .f32) (ix3 0 r a) = (m (c.tc.loc main_arg0) : Vec Ideal S8x2048x1024 .f32) (ix3 b s a) := by
  blk_simp [iblk]
  rw [V_main_arg0]
  refine congrArg _ (funext fun q => Fin.ext ?_)
  fin_cases q
  · blk_simp [index_0]
    exact hb.symm
  · blk_simp [index_0]
    exact (congrArg (· + r.val) (Nat.mul_comm _ _)).trans hs.symm
  · blk_simp [index_0]
    rfl

theorem gainBlock_apply (c : Dev nD) (t : Fin cfg0.N) (y : S1x1024.Idx) :
    (iblk m c 1 t : Vec Ideal S1x1024 .f32) y = (m (c.tc.loc main_arg1) : Vec Ideal S1x1024 .f32) y := by
  blk_simp [iblk]
  rw [V_main_arg1]
  refine congrArg _ (funext fun a => Fin.ext ?_)
  fin_cases a <;> blk_simp [index_1]

theorem weightBlock_apply (c : Dev nD) (t : Fin cfg0.N) (y : S1024x6656.Idx) :
    (iblk m c 2 t : Vec Ideal S1024x6656 .bf16) y = (m (c.tc.loc main_arg2) : Vec Ideal S1024x6656 .f32) y := by
  blk_simp [iblk]
  rw [V_main_v0]
  refine congrArg _ (funext fun a => Fin.ext ?_)
  fin_cases a <;> blk_simp [index_2]

theorem biasBlock_apply (c : Dev nD) (t : Fin cfg0.N) (y : S1x6656.Idx) :
    (iblk m c 3 t : Vec Ideal S1x6656 .f32) y = (m (c.tc.loc main_arg3) : Vec Ideal S1x6656 .f32) y := by
  blk_simp [iblk]
  rw [V_main_arg3]
  refine congrArg _ (funext fun a => Fin.ext ?_)
  fin_cases a <;> blk_simp [index_3]

theorem boundBlock_apply (c : Dev nD) (t : Fin cfg0.N) (y : S1x1024.Idx) :
    (iblk m c 11 t : Vec Ideal S1x1024 .f32) y = (m (c.tc.loc main_arg11) : Vec Ideal S1x1024 .f32) y := by
  blk_simp [iblk]
  rw [V_main_arg11]
  refine congrArg _ (funext fun a => Fin.ext ?_)
  fin_cases a <;> blk_simp [index_11]

/-- A tile's projection is the sequence's at the tile's steps. -/
theorem block_proj (c : Dev nD) (t : Fin cfg0.N) (b : Fin 8) (hb : b.val = t.val / 4) (r : Fin 512) (j : Fin 6656) :
    tileProj (iblk m c 0 t) (iblk m c 1 t) (iblk m c 2 t) (iblk m c 3 t) r j
      = stepAt (m (c.tc.loc main_arg0)) (m (c.tc.loc main_arg1)) (m (c.tc.loc main_arg2)) (m (c.tc.loc main_arg3)) b j (512 * (t.val % 4) + r.val) := by
  have hs : 512 * (t.val % 4) + r.val < 2048 := by omega
  unfold tileProj stepAt
  rw [dif_pos hs, funext fun a => xBlock_apply m c t b hb r ⟨_, hs⟩ rfl a, funext fun a => gainBlock_apply m c t (ix2 0 a),
    funext fun a => weightBlock_apply m c t (ix2 a j), biasBlock_apply]

section
variable (c : Dev nD) (hl : ∀ j, ∃ l : ℝ, (m (c.tc.loc main_arg11) : Vec Ideal S1x1024 .f32) (ix2 0 j) = (l : EReal) ∧ 0 < l ∧ l < 1)

/-- Head `h`'s state of sequence `b` after `n` steps, transposed as the kernel keeps it. -/
def stateOf (b h : Fin 8) (v k : Fin 128) (n : ℕ) : EReal :=
  hgAfter (m (c.tc.loc main_arg0)) (m (c.tc.loc main_arg1)) (m (c.tc.loc main_arg2)) (m (c.tc.loc main_arg3)) (m (c.tc.loc main_arg11)) b h k v n

include hl in
/-- One tile's states, whatever its body loads them from. -/
theorem tile_states (t : Fin cfg0.N) (b : Fin 8) (hb : b.val = t.val / 4)
    (arg2 : Memref sig .tc .vmem S1x512x1024 .f32) (harg2 : arg2.IsWhole) (arg3 : Memref sig .tc .vmem S1x1024 .f32) (harg3 : arg3.IsWhole)
    (arg4 : Memref sig .tc .vmem S1024x6656 .bf16) (harg4 : arg4.IsWhole) (arg5 : Memref sig .tc .vmem S1x6656 .f32) (harg5 : arg5.IsWhole)
    (arg13 : Memref sig .tc .vmem S1x1024 .f32) (harg13 : arg13.IsWhole) (arg23 : Memref sig .tc .vmem S512x1024 .bf16)
    (arg33 : Memref sig .tc .vmem S512x4096 .f32) (arg36 : Memref sig .tc .vmem S2x5x64x1024 .bf16) (arg37 : Memref sig .tc .vmem S2x1x1024 .f32)
    (ld : ℕ → List (View.Piece (Elt Ideal) S8x128x128 .f32) → Vec Ideal S1x128x128 .f32) (L0 : List (View.Piece (Elt Ideal) S8x128x128 .f32))
    (ld0 : ∀ (h : Fin 8) L, (∀ a d, View.canon L (ix3 h a d) = View.canon L0 (ix3 h a d)) →
      ∀ a d, ld h.val L (ix3 0 a d) = stateOf m c b h a d (512 * (t.val % 4)))
    (ld1 : ∀ (n : ℕ) (h : Fin 8), n % 8 = h.val → 8 ≤ n → ∀ L a d, ld n L (ix3 0 a d) = View.canon L (ix3 h a d)) (h : Fin 8) (v k : Fin 128) :
    View.canon (stPieces arg2 harg2 arg3 harg3 arg4 harg4 arg5 harg5 arg13 harg13 arg23 arg33 arg36 arg37
        (iblk m c 0 t) (iblk m c 1 t) (iblk m c 2 t) (iblk m c 3 t) (iblk m c 11 t) ld L0 64) (ix3 h v k)
      = stateOf m c b h v k (512 * (t.val % 4) + 512) := by
  refine ((states_apply arg2 harg2 arg3 harg3 arg4 harg4 arg5 harg5 arg13 harg13 arg23 arg33 arg36 arg37
    (iblk m c 0 t) (iblk m c 1 t) (iblk m c 2 t) (iblk m c 3 t) (iblk m c 11 t) (512 * (t.val % 4))
    (forgetAt (m (c.tc.loc main_arg0)) (m (c.tc.loc main_arg1)) (m (c.tc.loc main_arg2)) (m (c.tc.loc main_arg3)) (m (c.tc.loc main_arg11)) b)
    (valueAt (m (c.tc.loc main_arg0)) (m (c.tc.loc main_arg1)) (m (c.tc.loc main_arg2)) (m (c.tc.loc main_arg3)) b)
    (fun j => ?_) (fun r j => ?_) (fun r j => ?_) ld L0 ld0 ld1 64 le_rfl h).2 (by omega) v k).trans ?_
  · obtain ⟨l, e, h0⟩ := hl j
    exact ⟨l, (boundBlock_apply m c t _).trans e, h0⟩
  · rw [boundBlock_apply, block_proj m c t b hb]
    rfl
  · exact block_proj m c t b hb r _
  · rw [show (64 + 7 - h.val) / 8 = 8 by omega]
    rfl

include hl in
/-- What tile `t` leaves in the states. -/
theorem carried_states (t : ℕ) (ht : t < cfg0.N) (b : Fin 8) (hb : b.val = t / 4) (h : Fin 8) (v k : Fin 128) :
    ((outsAt0 m c t ht).2.2.2.2.2.2 : Vec Ideal S8x128x128 .f32) (ix3 h v k) = stateOf m c b h v k (512 * (t % 4) + 512) := by
  induction t using Nat.strong_induction_on generalizing h v k with
  | _ t ih =>
  by_cases h0 : t % 4 = 0
  · have h1 : ¬t % 4 = 3 := by omega
    rw [outsAt0_A m c ⟨t, ht⟩ h0 h1]
    dsimp only
    unfold sout0_A_9
    rw [View.read_writes_junk_eq_canon, runA_states]
    refine tile_states m c hl ⟨t, ht⟩ b hb _ _ _ _ _ _ _ _ _ _ _ _ _ _ _ _ (fun h L hL a d => ?_) (fun n h hn _ L a d => stBack_apply _ n h hn L a d) h v k
    rw [stBack_apply _ h.val h (Nat.mod_eq_of_lt h.isLt), hL, show 512 * (t % 4) = 0 by omega]
    refine (zeroes_apply _).trans ?_
    unfold stateOf hgAfter
    exact (stateAfter_zero _ _ _).symm
  · have ht' : t - 1 < cfg0.N := by omega
    have back : ∀ (h : Fin 8) L, (∀ a d, View.canon L (ix3 h a d) = View.canon ([] : List (View.Piece (Elt Ideal) S8x128x128 .f32)) (ix3 h a d)) →
        ∀ a d, stCarried scM0_9 (Memref.isWhole_whole _) (outsAt0 m c (t - 1) ht').2.2.2.2.2.2 h.val L (ix3 0 a d) = stateOf m c b h a d (512 * (t % 4)) := by
      intro h L _ a d
      rw [stCarried_apply, ih (t - 1) (by omega) ht' (by omega), show 512 * ((t - 1) % 4) + 512 = 512 * (t % 4) by omega]
    by_cases h1 : t % 4 = 3
    · rw [outsAt0_C m c ⟨t, ht⟩ h0 h1]
      dsimp only
      unfold sout0_C_9
      rw [View.read_writes_junk_eq_canon, runC_states]
      exact tile_states m c hl ⟨t, ht⟩ b hb _ _ _ _ _ _ _ _ _ _ _ _ _ _ _ _ back (fun n h hn h8 L a d => stCarried_later _ _ _ n h hn h8 L a d) h v k
    · rw [outsAt0_B m c ⟨t, ht⟩ h0 h1]
      dsimp only
      unfold sout0_B_9
      rw [View.read_writes_junk_eq_canon, runB_states]
      exact tile_states m c hl ⟨t, ht⟩ b hb _ _ _ _ _ _ _ _ _ _ _ _ _ _ _ _ back (fun n h hn h8 L a d => stCarried_later _ _ _ n h hn h8 L a d) h v k

/-- A sequence's last tile transposes the states it leaves into the result's block. -/
theorem last_tile (t : Fin cfg0.N) (h0 : ¬t.val % 4 = 0) (h1 : t.val % 4 = 3) : ∃ L,
    (outsAt0 m c t.val t.isLt).2.2.2.1 = View.canon (outPieces (F := Ideal) scM0_9 L 8)
      ∧ (outsAt0 m c t.val t.isLt).2.2.2.2.2.2 = View.canon L := by
  refine ⟨?L, ?_, ?_⟩
  case refine_2 =>
    rw [outsAt0_C m c t h0 h1]
    dsimp only
    unfold sout0_C_9
    rw [View.read_writes_junk_eq_canon, runC_states]
  case refine_1 =>
    rw [outsAt0_C m c t h0 h1]
    dsimp only
    unfold out0_C_20
    rw [View.read_writes_junk_eq_canon, runC_result]

include hl in
/-- What a sequence's last tile leaves in the result's block: each head's state after the whole sequence. -/
theorem left_states (t : Fin cfg0.N) (h1 : t.val % 4 = 3) (b : Fin 8) (hb : b.val = t.val / 4) (h : Fin 8) (k v : Fin 128) :
    ((outsAt0 m c t.val t.isLt).2.2.2.1 : Vec Ideal S1x8x128x128 .f32) (ix4 0 h k v) = stateOf m c b h v k 2048 := by
  obtain ⟨L, e1, e2⟩ := last_tile m c t (by omega) h1
  have e := carried_states m c hl t.val t.isLt b hb h v k
  rw [e2, h1] at e
  rw [e1]
  exact (outs_apply scM0_9 L 8 le_rfl h h.isLt k v).trans e

include hl in
/-- The result's array after the run: every head's state after the whole sequence. -/
theorem final_states : (dats m 0 c).arrAt 20 cfg0.N
    = (fun z => hgAfter (m (c.tc.loc main_arg0)) (m (c.tc.loc main_arg1)) (m (c.tc.loc main_arg2)) (m (c.tc.loc main_arg3)) (m (c.tc.loc main_arg11))
        (z 0) (z 1) (z 2) (z 3) 2048 : Vec Ideal S8x8x128x128 .f32) := by
  refine (dats m 0 c).arrAt_eq_of_covers 20 _ (by decide +kernel) fun t hf y => ?_
  have h1 := flush_20 t hf
  have hN : t.val < 32 := t.isLt
  obtain ⟨y0, h, k, v, rfl⟩ : ∃ (y0 : Fin 1) (h : Fin 8) (k v : Fin 128), y = ix4 y0 h k v := ⟨_, _, _, _, eq_ix4 y⟩
  obtain rfl : y0 = 0 := Subsingleton.elim _ _
  blk_simp
  rw [after0_20]
  refine (left_states m c hl t h1 ⟨t.val / 4, by omega⟩ rfl h k v).trans ?_
  have key : ∀ z : S8x8x128x128.Idx, (z 0).val = t.val / 4 → (z 1).val = h.val → (z 2).val = k.val → (z 3).val = v.val →
      stateOf m c ⟨t.val / 4, by omega⟩ h v k 2048
        = hgAfter (m (c.tc.loc main_arg0)) (m (c.tc.loc main_arg1)) (m (c.tc.loc main_arg2)) (m (c.tc.loc main_arg3)) (m (c.tc.loc main_arg11))
            (z 0) (z 1) (z 2) (z 3) 2048 := by
    intro z e0 e1 e2 e3
    rw [show z 0 = (⟨t.val / 4, by omega⟩ : Fin 8) from Fin.ext e0, show z 1 = h from Fin.ext e1, show z 2 = k from Fin.ext e2, show z 3 = v from Fin.ext e3]
    rfl
  refine key _ ?_ ?_ ?_ ?_
  · blk_simp [index_20]
    rfl
  · blk_simp [index_20]
  · blk_simp [index_20]
  · blk_simp [index_20]

end

end Cert.Kernel3Ideal.Gen

end
-- ==== Proof.MixerClaim.lean ====
module

public import proofs.«01_k».proof.Defs
public import proofs.«01_k».proof.Proof.MixerRef
public import proofs.«01_k».proof.Proof.MixerFinal
public import proofs.«01_k».proof.Proof.Gen.Kernel3Ideal.Value
public import proofs.«01_k».proof.Proof.Gen.Pre_bound_inside
public import Idealize.ShloMosaic.Lib.ReduceAll

@[expose] public section

set_option maxRecDepth 65536

noncomputable section

namespace Cert.Proof.Mixer

open Idealize.ShloMosaic Idealize.ShloMosaic.TcCoe Idealize.ShloMosaic.Tactic Idealize.SL.Sem
open Cert.Kernel3Ideal.Gen (final_states)

/-! ## The prompt's recurrent states against their reference -/

section
open Cert.Pre_bound_inside

/-- The precondition read back: every forget bound is a real number between zero and one. -/
theorem bound_real (a0 : FVec Ideal S8x2048x1024 .f32) (a1 : FVec Ideal S1x1024 .f32) (a2 : FVec Ideal S1024x6656 .f32) (a3 : FVec Ideal S1x6656 .f32)
    (a4 : FVec Ideal S16x256x512 .bf16) (a5 : FVec Ideal S16x256x256 .bf16) (a6 a7 : FVec Ideal S6x2048 .f32) (a8 : FVec Ideal S1x512 .f32)
    (a9 : FVec Ideal S512x512 .bf16) (a10 : FVec Ideal S1x512 .f32) (lb a12 : FVec Ideal S1x1024 .f32) (a13 : FVec Ideal S512x1024 .bf16)
    (a14 a15 : FVec Ideal S1024x1024 .bf16) (a16 : FVec Ideal S1x1024 .f32)
    (hp : fn (F := Ideal) a0 a1 a2 a3 a4 a5 a6 a7 a8 a9 a10 lb a12 a13 a14 a15 a16 = fun _ => 1#1) (j : Fin 1024) :
    ∃ l : ℝ, lb (ix2 0 j) = (l : EReal) ∧ 0 < l ∧ l < 1 := by
  have e := congrFun hp (fun a => a.elim0)
  unfold fn at e
  haveI : Subsingleton S_.Idx := ⟨fun x y => funext fun a => a.elim0⟩
  have e' := Host.reduce_andi_all _ _ _ _ _ e (ix2 0 j)
  revert e'
  pointwise
  intro e'
  generalize lb (ix2 0 j) = x at e'
  have h0 : (0 : EReal) < x := by
    by_contra hne
    rw [decide_eq_false hne] at e'
    revert e'
    cases decide (x < 1) <;> decide
  have h1 : x < (1 : EReal) := by
    by_contra hne
    rw [decide_eq_false hne] at e'
    revert e'
    cases decide (0 < x) <;> decide
  induction x using EReal.rec with
  | bot => exact absurd h0 (by simp)
  | top => exact absurd h1 (by simp)
  | coe l => exact ⟨l, rfl, by exact_mod_cast h0, by exact_mod_cast h1⟩

end

/-- The mixer's state array is its reference's, in exact arithmetic, when the forget bounds lie between zero and one. -/
theorem algebraic_mixer : Cert.algebraic_Kernel3Ideal_Reference3Ideal_pre_bound_inside := by
  intro m g m' g' hpre hargs
  have hl := fun c => bound_real _ _ _ _ _ _ _ _ _ _ _ _ _ _ _ _ _ (hpre c)
  refine ⟨fun c => (fun z => hgAfter (m (c.tc.loc Cert.Kernel3Ideal.main_arg0)) (m (c.tc.loc Cert.Kernel3Ideal.main_arg1)) (m (c.tc.loc Cert.Kernel3Ideal.main_arg2))
    (m (c.tc.loc Cert.Kernel3Ideal.main_arg3)) (m (c.tc.loc Cert.Kernel3Ideal.main_arg11)) (z 0) (z 1) (z 2) (z 3) 2048), ?_, ?_⟩
  · refine (θ_run _ _ _).mono (fun r h c => ?_) (Cert.Kernel3Ideal.Value.run_blocks m g)
    exact ⟨(h c).2.2.2.1.trans (final_states m c (hl c)), (h c).2.2.2.2⟩
  · refine (θ_run _ _ _).mono (fun r h c => ?_) (Cert.Reference3Ideal.Value.run m' g')
    obtain ⟨h0, h1, h2, h3, h4, h5, h6, h7, h8, h9, h10, h11, -⟩ := hargs c
    refine ⟨(h c).1.trans ?_, (h c).2⟩
    rw [Cert.Reference3Ideal.Read.val_main_v47_eq]
    funext z
    obtain ⟨b, p, k, v, rfl⟩ : ∃ (b p : Fin 8) (k v : Fin 128), z = ix4 b p k v := ⟨_, _, _, _, eq_ix4 z⟩
    rw [h0, h1, h2, h3, h11]
    exact ref_state _ _ _ _ _ (hl c) b p k v

/-- The mixer's reference ends with its arguments as they were; it has no semaphore. -/
theorem quiescent_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

end Cert.Proof.Mixer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_unused_rows_zero
public import proofs.«01_k».proof.Proof.Gen.Reference2Ideal.Run
public import proofs.«01_k».proof.Proof.Gen.Reference2Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.StateClaim
public import proofs.«01_k».proof.Proof.MlpTransfer
public import proofs.«01_k».proof.Proof.MlpClaim
public import proofs.«01_k».proof.Proof.MixerClaim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_bound_inside
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_unused_rows_zero.Gen.facts, Cert.Pre_bound_inside.Gen.facts,
  fun m ρ _ => Cert.Kernel.Gen.frame m ρ,
  fun m ρ _ => Cert.KernelIdeal.Gen.frame m ρ,
  fun m ρ _ => Cert.KernelIdeal.Gen.frame m ρ,
  State.quiescent_reference,
  fun m ρ _ => State.quiescent_reference m ρ trivial,
  Mlp.quiescent_printed,
  fun m ρ _ => Cert.Kernel2Ideal.Gen.frame m ρ,
  Mlp.quiescent_reference2,
  fun m ρ _ => Cert.Kernel3.Gen.frame m ρ,
  fun m ρ _ => Cert.Kernel3Ideal.Gen.frame m ρ,
  fun m ρ _ => Cert.Kernel3Ideal.Gen.frame m ρ,
  Mixer.quiescent_reference3,
  fun m ρ _ => Mixer.quiescent_reference3 m ρ trivial,
  trivial,
  State.algebraic_state,
  trivial,
  Mlp.algebraic_mlp,
  trivial,
  Mixer.algebraic_mixer⟩

end Cert.Proof

end
